-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![4096, 1024]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S1024x1024 : Shape := ⟨2, ![1024, 1024]⟩
abbrev S2x8x64x1024 : Shape := ⟨4, ![2, 8, 64, 1024]⟩
abbrev S2x8 : Shape := ⟨2, ![2, 8]⟩
abbrev S_ : Shape := ⟨0, ![]⟩
abbrev S64x1024 : Shape := ⟨2, ![64, 1024]⟩
abbrev S1x1x64x1024 : Shape := ⟨4, ![1, 1, 64, 1024]⟩
abbrev S1x1 : Shape := ⟨2, ![1, 1]⟩

abbrev nBuf : Space → Nat
  | .hbm => 3
  | .vmem => 6
  | .smem => 0
  | _ => 0

abbrev bufTy : (tb : Table) → Fin (tcTables nBuf tb) → BufTy
  | .hbm, ⟨0, _⟩ => ⟨S1024x512, .bf16⟩
  | .hbm, ⟨1, _⟩ => ⟨S512x1024, .bf16⟩
  | .hbm, ⟨2, _⟩ => ⟨S1024x1024, .f32⟩
  | .local _ .vmem, ⟨0, _⟩ => ⟨S1024x512, .bf16⟩
  | .local _ .vmem, ⟨1, _⟩ => ⟨S512x1024, .bf16⟩
  | .local _ .vmem, ⟨2, _⟩ => ⟨S1024x1024, .f32⟩
  | .local _ .vmem, ⟨3, _⟩ => ⟨S2x8x64x1024, .bf16⟩
  | .local _ .vmem, ⟨4, _⟩ => ⟨S2x8x64x1024, .bf16⟩
  | .local _ .vmem, ⟨5, _⟩ => ⟨S2x8x64x1024, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_89 : BitVec 32) : Fin 2 → Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v117 : BitVec 32 := Scalar.addi v2 c1_i32_89
  let c8_i32_90 : BitVec 32 := 8#32
  let v118 : BitVec 32 := Scalar.remsi v117 c8_i32_90
  ![0, v118.toNat]
def k0_off2 (d0 : Dev nD) : Fin 2 → Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off3 (d0 : Dev nD) : Fin 4 → Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_97 : BitVec 32 := 0#32
  let c0_i32_98 : BitVec 32 := 0#32
  ![0, v2.toNat, 0, 0]
def k0_off4 (d0 : Dev nD) (c1_i32_89 : BitVec 32) : Fin 4 → Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v117 : BitVec 32 := Scalar.addi v2 c1_i32_89
  let c8_i32_90 : BitVec 32 := 8#32
  let v118 : BitVec 32 := Scalar.remsi v117 c8_i32_90
  let c0_i32_99 : BitVec 32 := 0#32
  let c0_i32_100 : BitVec 32 := 0#32
  ![0, v118.toNat, 0, 0]
def k0_dev8 (d0 : Dev nD) : Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_89 : BitVec 32 := 1#32
  let v117 : BitVec 32 := Scalar.addi v2 c1_i32_89
  let c8_i32_90 : BitVec 32 := 8#32
  let v118 : BitVec 32 := Scalar.remsi v117 c8_i32_90
  let c1_i32_95 : BitVec 32 := 1#32
  let v119 : BitVec 32 := Scalar.muli v118 c1_i32_95
  let v120 : BitVec 32 := Scalar.addi c0_i32_96 v119
  v120.toNat
def k0_dev9 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_101 : BitVec 32 := 2#32
  let v129 : BitVec 32 := Scalar.addi v2 c2_i32_101
  let c8_i32_102 : BitVec 32 := 8#32
  let v130 : BitVec 32 := Scalar.remsi v129 c8_i32_102
  let c1_i32_107 : BitVec 32 := 1#32
  let v131 : BitVec 32 := Scalar.muli v130 c1_i32_107
  let v132 : BitVec 32 := Scalar.addi c0_i32_108 v131
  v132.toNat
def k0_dev10 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_113 : BitVec 32 := 3#32
  let v141 : BitVec 32 := Scalar.addi v2 c3_i32_113
  let c8_i32_114 : BitVec 32 := 8#32
  let v142 : BitVec 32 := Scalar.remsi v141 c8_i32_114
  let c1_i32_119 : BitVec 32 := 1#32
  let v143 : BitVec 32 := Scalar.muli v142 c1_i32_119
  let v144 : BitVec 32 := Scalar.addi c0_i32_120 v143
  v144.toNat
def k0_dev11 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_125 : BitVec 32 := 4#32
  let v153 : BitVec 32 := Scalar.addi v2 c4_i32_125
  let c8_i32_126 : BitVec 32 := 8#32
  let v154 : BitVec 32 := Scalar.remsi v153 c8_i32_126
  let c1_i32_131 : BitVec 32 := 1#32
  let v155 : BitVec 32 := Scalar.muli v154 c1_i32_131
  let v156 : BitVec 32 := Scalar.addi c0_i32_132 v155
  v156.toNat
def k0_dev12 (d0 : Dev nD) : Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_137 : BitVec 32 := 5#32
  let v165 : BitVec 32 := Scalar.addi v2 c5_i32_137
  let c8_i32_138 : BitVec 32 := 8#32
  let v166 : BitVec 32 := Scalar.remsi v165 c8_i32_138
  let c1_i32_143 : BitVec 32 := 1#32
  let v167 : BitVec 32 := Scalar.muli v166 c1_i32_143
  let v168 : BitVec 32 := Scalar.addi c0_i32_144 v167
  v168.toNat
def k0_dev13 (d0 : Dev nD) : Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_149 : BitVec 32 := 6#32
  let v177 : BitVec 32 := Scalar.addi v2 c6_i32_149
  let c8_i32_150 : BitVec 32 := 8#32
  let v178 : BitVec 32 := Scalar.remsi v177 c8_i32_150
  let c1_i32_155 : BitVec 32 := 1#32
  let v179 : BitVec 32 := Scalar.muli v178 c1_i32_155
  let v180 : BitVec 32 := Scalar.addi c0_i32_156 v179
  v180.toNat
def k0_dev14 (d0 : Dev nD) : Nat :=
  let c0_i32_168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_161 : BitVec 32 := 7#32
  let v189 : BitVec 32 := Scalar.addi v2 c7_i32_161
  let c8_i32_162 : BitVec 32 := 8#32
  let v190 : BitVec 32 := Scalar.remsi v189 c8_i32_162
  let c1_i32_167 : BitVec 32 := 1#32
  let v191 : BitVec 32 := Scalar.muli v190 c1_i32_167
  let v192 : BitVec 32 := Scalar.addi c0_i32_168 v191
  v192.toNat
def k0_off5 (d0 : Dev nD) : Fin 4 → Nat :=
  let c0_173 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v201 : Index := Scalar.indexCast v2
  let c0_174 : Index := 0#32
  let c0_175 : Index := 0#32
  ![0, v201.toNat, 0, 0]
def k0_off6 (d0 : Dev nD) (c1_i32_179 : BitVec 32) : Fin 2 → Nat :=
  let c1_i32_184 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v208 : BitVec 32 := Scalar.addi v2 c1_i32_179
  let c8_i32_180 : BitVec 32 := 8#32
  let v209 : BitVec 32 := Scalar.remsi v208 c8_i32_180
  ![1, v209.toNat]
def k0_off7 (d0 : Dev nD) : Fin 2 → Nat :=
  let c1_i32_183 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off8 (d0 : Dev nD) : Fin 4 → Nat :=
  let c1_i32_182 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_187 : BitVec 32 := 0#32
  let c0_i32_188 : BitVec 32 := 0#32
  ![1, v2.toNat, 0, 0]
def k0_off9 (d0 : Dev nD) (c1_i32_179 : BitVec 32) : Fin 4 → Nat :=
  let c1_i32_181 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v208 : BitVec 32 := Scalar.addi v2 c1_i32_179
  let c8_i32_180 : BitVec 32 := 8#32
  let v209 : BitVec 32 := Scalar.remsi v208 c8_i32_180
  let c0_i32_189 : BitVec 32 := 0#32
  let c0_i32_190 : BitVec 32 := 0#32
  ![1, v209.toNat, 0, 0]
def k0_dev15 (d0 : Dev nD) : Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_179 : BitVec 32 := 1#32
  let v208 : BitVec 32 := Scalar.addi v2 c1_i32_179
  let c8_i32_180 : BitVec 32 := 8#32
  let v209 : BitVec 32 := Scalar.remsi v208 c8_i32_180
  let c1_i32_185 : BitVec 32 := 1#32
  let v210 : BitVec 32 := Scalar.muli v209 c1_i32_185
  let v211 : BitVec 32 := Scalar.addi c0_i32_186 v210
  v211.toNat
def k0_dev16 (d0 : Dev nD) : Nat :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_191 : BitVec 32 := 2#32
  let v220 : BitVec 32 := Scalar.addi v2 c2_i32_191
  let c8_i32_192 : BitVec 32 := 8#32
  let v221 : BitVec 32 := Scalar.remsi v220 c8_i32_192
  let c1_i32_197 : BitVec 32 := 1#32
  let v222 : BitVec 32 := Scalar.muli v221 c1_i32_197
  let v223 : BitVec 32 := Scalar.addi c0_i32_198 v222
  v223.toNat
def k0_dev17 (d0 : Dev nD) : Nat :=
  let c0_i32_210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_203 : BitVec 32 := 3#32
  let v232 : BitVec 32 := Scalar.addi v2 c3_i32_203
  let c8_i32_204 : BitVec 32 := 8#32
  let v233 : BitVec 32 := Scalar.remsi v232 c8_i32_204
  let c1_i32_209 : BitVec 32 := 1#32
  let v234 : BitVec 32 := Scalar.muli v233 c1_i32_209
  let v235 : BitVec 32 := Scalar.addi c0_i32_210 v234
  v235.toNat
def k0_dev18 (d0 : Dev nD) : Nat :=
  let c0_i32_222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_215 : BitVec 32 := 4#32
  let v244 : BitVec 32 := Scalar.addi v2 c4_i32_215
  let c8_i32_216 : BitVec 32 := 8#32
  let v245 : BitVec 32 := Scalar.remsi v244 c8_i32_216
  let c1_i32_221 : BitVec 32 := 1#32
  let v246 : BitVec 32 := Scalar.muli v245 c1_i32_221
  let v247 : BitVec 32 := Scalar.addi c0_i32_222 v246
  v247.toNat
def k0_dev19 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_227 : BitVec 32 := 5#32
  let v256 : BitVec 32 := Scalar.addi v2 c5_i32_227
  let c8_i32_228 : BitVec 32 := 8#32
  let v257 : BitVec 32 := Scalar.remsi v256 c8_i32_228
  let c1_i32_233 : BitVec 32 := 1#32
  let v258 : BitVec 32 := Scalar.muli v257 c1_i32_233
  let v259 : BitVec 32 := Scalar.addi c0_i32_234 v258
  v259.toNat
def k0_dev20 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_239 : BitVec 32 := 6#32
  let v268 : BitVec 32 := Scalar.addi v2 c6_i32_239
  let c8_i32_240 : BitVec 32 := 8#32
  let v269 : BitVec 32 := Scalar.remsi v268 c8_i32_240
  let c1_i32_245 : BitVec 32 := 1#32
  let v270 : BitVec 32 := Scalar.muli v269 c1_i32_245
  let v271 : BitVec 32 := Scalar.addi c0_i32_246 v270
  v271.toNat
def k0_dev21 (d0 : Dev nD) : Nat :=
  let c0_i32_258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_251 : BitVec 32 := 7#32
  let v280 : BitVec 32 := Scalar.addi v2 c7_i32_251
  let c8_i32_252 : BitVec 32 := 8#32
  let v281 : BitVec 32 := Scalar.remsi v280 c8_i32_252
  let c1_i32_257 : BitVec 32 := 1#32
  let v282 : BitVec 32 := Scalar.muli v281 c1_i32_257
  let v283 : BitVec 32 := Scalar.addi c0_i32_258 v282
  v283.toNat
def k0_off10 (d0 : Dev nD) : Fin 4 → Nat :=
  let c1_263 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v292 : Index := Scalar.indexCast v2
  let c0_264 : Index := 0#32
  let c0_265 : Index := 0#32
  ![1, v292.toNat, 0, 0]
def k0_dev22 (d0 : Dev nD) : Nat :=
  let c0_i32_399 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_392 : BitVec 32 := 1#32
  let v418 : BitVec 32 := Scalar.addi v2 c1_i32_392
  let c8_i32_393 : BitVec 32 := 8#32
  let v419 : BitVec 32 := Scalar.remsi v418 c8_i32_393
  let c1_i32_398 : BitVec 32 := 1#32
  let v420 : BitVec 32 := Scalar.muli v419 c1_i32_398
  let v421 : BitVec 32 := Scalar.addi c0_i32_399 v420
  v421.toNat
def k0_dev23 (d0 : Dev nD) : Nat :=
  let c0_i32_411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_404 : BitVec 32 := 2#32
  let v430 : BitVec 32 := Scalar.addi v2 c2_i32_404
  let c8_i32_405 : BitVec 32 := 8#32
  let v431 : BitVec 32 := Scalar.remsi v430 c8_i32_405
  let c1_i32_410 : BitVec 32 := 1#32
  let v432 : BitVec 32 := Scalar.muli v431 c1_i32_410
  let v433 : BitVec 32 := Scalar.addi c0_i32_411 v432
  v433.toNat
def k0_dev24 (d0 : Dev nD) : Nat :=
  let c0_i32_423 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_416 : BitVec 32 := 3#32
  let v442 : BitVec 32 := Scalar.addi v2 c3_i32_416
  let c8_i32_417 : BitVec 32 := 8#32
  let v443 : BitVec 32 := Scalar.remsi v442 c8_i32_417
  let c1_i32_422 : BitVec 32 := 1#32
  let v444 : BitVec 32 := Scalar.muli v443 c1_i32_422
  let v445 : BitVec 32 := Scalar.addi c0_i32_423 v444
  v445.toNat
def k0_dev25 (d0 : Dev nD) : Nat :=
  let c0_i32_435 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_428 : BitVec 32 := 4#32
  let v454 : BitVec 32 := Scalar.addi v2 c4_i32_428
  let c8_i32_429 : BitVec 32 := 8#32
  let v455 : BitVec 32 := Scalar.remsi v454 c8_i32_429
  let c1_i32_434 : BitVec 32 := 1#32
  let v456 : BitVec 32 := Scalar.muli v455 c1_i32_434
  let v457 : BitVec 32 := Scalar.addi c0_i32_435 v456
  v457.toNat
def k0_dev26 (d0 : Dev nD) : Nat :=
  let c0_i32_447 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_440 : BitVec 32 := 5#32
  let v466 : BitVec 32 := Scalar.addi v2 c5_i32_440
  let c8_i32_441 : BitVec 32 := 8#32
  let v467 : BitVec 32 := Scalar.remsi v466 c8_i32_441
  let c1_i32_446 : BitVec 32 := 1#32
  let v468 : BitVec 32 := Scalar.muli v467 c1_i32_446
  let v469 : BitVec 32 := Scalar.addi c0_i32_447 v468
  v469.toNat
def k0_dev27 (d0 : Dev nD) : Nat :=
  let c0_i32_459 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_452 : BitVec 32 := 6#32
  let v478 : BitVec 32 := Scalar.addi v2 c6_i32_452
  let c8_i32_453 : BitVec 32 := 8#32
  let v479 : BitVec 32 := Scalar.remsi v478 c8_i32_453
  let c1_i32_458 : BitVec 32 := 1#32
  let v480 : BitVec 32 := Scalar.muli v479 c1_i32_458
  let v481 : BitVec 32 := Scalar.addi c0_i32_459 v480
  v481.toNat
def k0_dev28 (d0 : Dev nD) : Nat :=
  let c0_i32_471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_464 : BitVec 32 := 7#32
  let v490 : BitVec 32 := Scalar.addi v2 c7_i32_464
  let c8_i32_465 : BitVec 32 := 8#32
  let v491 : BitVec 32 := Scalar.remsi v490 c8_i32_465
  let c1_i32_470 : BitVec 32 := 1#32
  let v492 : BitVec 32 := Scalar.muli v491 c1_i32_470
  let v493 : BitVec 32 := Scalar.addi c0_i32_471 v492
  v493.toNat
def k0_dev29 (d0 : Dev nD) : Nat :=
  let c0_i32_606 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_599 : BitVec 32 := 1#32
  let v621 : BitVec 32 := Scalar.addi v2 c1_i32_599
  let c8_i32_600 : BitVec 32 := 8#32
  let v622 : BitVec 32 := Scalar.remsi v621 c8_i32_600
  let c1_i32_605 : BitVec 32 := 1#32
  let v623 : BitVec 32 := Scalar.muli v622 c1_i32_605
  let v624 : BitVec 32 := Scalar.addi c0_i32_606 v623
  v624.toNat
def k0_dev30 (d0 : Dev nD) : Nat :=
  let c0_i32_618 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_611 : BitVec 32 := 2#32
  let v633 : BitVec 32 := Scalar.addi v2 c2_i32_611
  let c8_i32_612 : BitVec 32 := 8#32
  let v634 : BitVec 32 := Scalar.remsi v633 c8_i32_612
  let c1_i32_617 : BitVec 32 := 1#32
  let v635 : BitVec 32 := Scalar.muli v634 c1_i32_617
  let v636 : BitVec 32 := Scalar.addi c0_i32_618 v635
  v636.toNat
def k0_dev31 (d0 : Dev nD) : Nat :=
  let c0_i32_630 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_623 : BitVec 32 := 3#32
  let v645 : BitVec 32 := Scalar.addi v2 c3_i32_623
  let c8_i32_624 : BitVec 32 := 8#32
  let v646 : BitVec 32 := Scalar.remsi v645 c8_i32_624
  let c1_i32_629 : BitVec 32 := 1#32
  let v647 : BitVec 32 := Scalar.muli v646 c1_i32_629
  let v648 : BitVec 32 := Scalar.addi c0_i32_630 v647
  v648.toNat
def k0_dev32 (d0 : Dev nD) : Nat :=
  let c0_i32_642 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_635 : BitVec 32 := 4#32
  let v657 : BitVec 32 := Scalar.addi v2 c4_i32_635
  let c8_i32_636 : BitVec 32 := 8#32
  let v658 : BitVec 32 := Scalar.remsi v657 c8_i32_636
  let c1_i32_641 : BitVec 32 := 1#32
  let v659 : BitVec 32 := Scalar.muli v658 c1_i32_641
  let v660 : BitVec 32 := Scalar.addi c0_i32_642 v659
  v660.toNat
def k0_dev33 (d0 : Dev nD) : Nat :=
  let c0_i32_654 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_647 : BitVec 32 := 5#32
  let v669 : BitVec 32 := Scalar.addi v2 c5_i32_647
  let c8_i32_648 : BitVec 32 := 8#32
  let v670 : BitVec 32 := Scalar.remsi v669 c8_i32_648
  let c1_i32_653 : BitVec 32 := 1#32
  let v671 : BitVec 32 := Scalar.muli v670 c1_i32_653
  let v672 : BitVec 32 := Scalar.addi c0_i32_654 v671
  v672.toNat
def k0_dev34 (d0 : Dev nD) : Nat :=
  let c0_i32_666 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_659 : BitVec 32 := 6#32
  let v681 : BitVec 32 := Scalar.addi v2 c6_i32_659
  let c8_i32_660 : BitVec 32 := 8#32
  let v682 : BitVec 32 := Scalar.remsi v681 c8_i32_660
  let c1_i32_665 : BitVec 32 := 1#32
  let v683 : BitVec 32 := Scalar.muli v682 c1_i32_665
  let v684 : BitVec 32 := Scalar.addi c0_i32_666 v683
  v684.toNat
def k0_dev35 (d0 : Dev nD) : Nat :=
  let c0_i32_678 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_671 : BitVec 32 := 7#32
  let v693 : BitVec 32 := Scalar.addi v2 c7_i32_671
  let c8_i32_672 : BitVec 32 := 8#32
  let v694 : BitVec 32 := Scalar.remsi v693 c8_i32_672
  let c1_i32_677 : BitVec 32 := 1#32
  let v695 : BitVec 32 := Scalar.muli v694 c1_i32_677
  let v696 : BitVec 32 := Scalar.addi c0_i32_678 v695
  v696.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x4096 : Shape := ⟨2, ![1024, 4096]⟩
abbrev S4096x1024 : Shape := ⟨2, ![4096, 1024]⟩
abbrev S1024x1024 : Shape := ⟨2, ![1024, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x1024, .bf16⟩
  | .hbm, ⟨2, _⟩ => ⟨S1024x4096, .f32⟩
  | .hbm, ⟨3, _⟩ => ⟨S4096x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.KernelIdeal.Pieces.lean ====
/-
A piece of a buffer: the elements one rectangle of a memref addresses, held by a device at a share and known to
hold a given array of values. The rules below say what a load, a store and a remote copy do to pieces, and how a
whole buffer is cut into pieces and put together again.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's, whose duties are named by `Fin 7` -/

abbrev UX : Type := URounds (GSem nD τ sig) (Fin 7)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

abbrev 𝒱₀ : Variants := Variants.none

/-- The certificate's weakest precondition of a program of device `c`'s TensorCore. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Pieces -/

section Piece

variable {sp : CoreSpace} {s : Shape} {e : EltTy}

/-- Device `c` holds, at share `q`, the elements rectangle `R` of `b` addresses, and they read `X`. -/
def piece (c : Dev nD) (b : Memref sig .tc sp s e) (R : Rect s) (q : PosShare TreeShare) (X : R.shape.Idx → Elt F e) : sProp 𝕄 :=
  iprop(∃ f : Buf (Elt F) ((b.access R).loc (c : Thread nD τ)), ⌜(b.access R).read (Elt F) f = X⌝
    ∗ ((b.access R).loc (c : Thread nD τ) ↦[(b.access R).set]{q} f))

theorem piece_intro (c : Dev nD) {b : Memref sig .tc sp s e} {R : Rect s} {q : PosShare TreeShare}
    {f : Buf (Elt F) ((b.access R).loc (c : Thread nD τ))} :
    ((b.access R).loc (c : Thread nD τ) ↦[(b.access R).set]{q} f) ⊢ (piece c b R q ((b.access R).read (Elt F) f) : sProp 𝕄) := by
  unfold piece
  iintro H
  iexists f
  isplitr
  · ipureintro; rfl
  · iexact H

/-- The elements rectangle `R` of `b` addresses on device `c`, whatever they hold. -/
def someP (c : Dev nD) (b : Memref sig .tc sp s e) (R : Rect s) : sProp 𝕄 :=
  iprop(∃ X, piece (F := F) c b R fullShare X)

instance piece_storable (c : Dev nD) (b : Memref sig .tc sp s e) (R : Rect s) (q) (X : R.shape.Idx → Elt F e) :
    BI.Storable (upEmb : UEmb _ 𝕄) (piece c b R q X) := by
  unfold piece; infer_instance

instance someP_storable (c : Dev nD) (b : Memref sig .tc sp s e) (R : Rect s) :
    BI.Storable (upEmb : UEmb _ 𝕄) (someP (F := F) c b R) := by
  unfold someP; infer_instance

variable {off off₀ size : Fin s.rank → Nat} {inb : ∀ a, off a + size a ≤ s.size a} {inb₀ : ∀ a, off₀ a + size a ≤ s.size a}

/-- A load through a rectangle returns what the piece there holds. -/
theorem load_piece (c : Dev nD) {b : Memref sig .tc sp s e} (hoff : off = off₀) {q : PosShare TreeShare}
    {X : (Rect.unit off₀ size inb₀).shape.Idx → Elt F e} {hl : b.view.LoadsAt (Rect.unit off size inb).toLoadRect}
    {α : Type} {Q : α → sProp 𝕄} {k : ((Rect.unit off size inb).toLoadRect.shape.Idx → Elt F e) → Prog (TpuEff nD τ sig (Elt F) Λ₀ .tc) α} :
    piece c b (Rect.unit off₀ size inb₀) q X
      ⊢ iprop((piece c b (Rect.unit off₀ size inb₀) q X -∗ run c (k X) Q)
          -∗ run c (.op (.load b (Rect.unit off size inb).toLoadRect hl) k) Q) := by
  subst hoff
  unfold piece
  iintro ⟨%f, %hf, H⟩ Hk
  iapply (wp_load_rect 𝒱₀ (c : Thread nD τ) none Set.univ (m := b) (r := Rect.unit off size inb) (hl := hl) subset_rfl) $$ H
  iintro H
  rw [hf]
  iapply Hk
  iexists f
  isplitr
  · ipureintro; exact hf
  · iexact H

/-- A store through a rectangle replaces what the piece there holds. -/
theorem store_piece (c : Dev nD) {b : Memref sig .tc sp s e} (hoff : off = off₀)
    {X w : (Rect.unit off₀ size inb₀).shape.Idx → Elt F e} {w' : (Rect.unit off size inb).shape.Idx → Elt F e} (hw : w' = w)
    {hx : (b.access (Rect.unit off size inb)).Stores Finset.univ}
    {hm : (Finset.univ : Finset (Rect.unit off size inb).shape.Idx) = Finset.univ ∨ ∀ a, (Rect.unit off size inb).stride a = 1}
    {α : Type} {Q : α → sProp 𝕄} {k : PUnit → Prog (TpuEff nD τ sig (Elt F) Λ₀ .tc) α} :
    piece c b (Rect.unit off₀ size inb₀) fullShare X
      ⊢ iprop((piece c b (Rect.unit off₀ size inb₀) fullShare w -∗ run c (k ⟨⟩) Q)
          -∗ run c (.op (.store b (Rect.unit off size inb) w' Finset.univ hx hm) k) Q) := by
  subst hoff
  subst hw
  unfold piece
  iintro ⟨%f, %hf, H⟩ Hk
  iapply (wp_store 𝒱₀ (c : Thread nD τ) none Set.univ (m := b) (r := Rect.unit off size inb) (hx := hx) (hm := hm)
    (S := (b.access (Rect.unit off size inb)).set) subset_rfl) $$ H
  iintro H
  iapply Hk
  iexists ((b.access (Rect.unit off size inb)).write (Elt F) f w' Finset.univ)
  isplitr
  · ipureintro; exact View.read_write_univ _ _
  · iexact H

variable {T : Type} [Fintype T] [DecidableEq T]

theorem access_disjoint {b : Memref sig .tc sp s e} {R R' : Rect s} (h : Disjoint R.set R'.set) :
    Disjoint (b.access R).set (b.access R').set := by
  rw [View.set_slice, View.set_slice]
  exact (Finset.disjoint_map _).mpr h

theorem access_cover {b : Memref sig .tc sp s e} (R : T → Rect s) (hc : ∀ x, ∃ t, x ∈ (R t).set) :
    Finset.univ.biUnion (fun t => (b.access (R t)).set) = b.view.set := by
  ext i
  simp only [Finset.mem_biUnion, Finset.mem_univ, true_and]
  constructor
  · rintro ⟨t, ht⟩
    rw [View.set_slice] at ht
    obtain ⟨x, -, rfl⟩ := Finset.mem_map.mp ht
    exact b.view.emb_mem_set x
  · intro hi
    obtain ⟨x, -, rfl⟩ := Finset.mem_map.mp hi
    obtain ⟨t, ht⟩ := hc x
    refine ⟨t, ?_⟩
    rw [View.set_slice]
    exact Finset.mem_map_of_mem _ ht

/-- A buffer is its pieces along a family of rectangles that tile it. -/
theorem pieces_split (c : Dev nD) (b : Memref sig .tc sp s e) (R : T → Rect s)
    (hd : ∀ t t', t ≠ t' → Disjoint (R t).set (R t').set) (hc : ∀ x, ∃ t, x ∈ (R t).set) (q : PosShare TreeShare)
    (f : Buf (Elt F) (b.view.loc (c : Thread nD τ))) :
    (b.view.loc (c : Thread nD τ) ↦[b.view.set]{q} f)
      ⊢ (bigSep Finset.univ fun t => piece c b (R t) q ((b.access (R t)).read (Elt F) f) : sProp 𝕄) := by
  have h := pointsTo_biUnion (Ix := Unit) (Name := ℕ) (U := UU) (Lvl := ℕ) (q := q) (f := f) Finset.univ (fun t => (b.access (R t)).set)
    (fun t _ t' _ ht => access_disjoint (hd t t' ht))
  rw [access_cover R hc] at h
  refine (Entails.of_eq h).trans (bigSep_mono fun t _ => ?_)
  exact piece_intro (b := b) (R := R t) (q := q) (f := f) c

/-- Pieces along a family of rectangles that tile a buffer make up the buffer, whose contents read at each
    rectangle what its piece holds. -/
theorem pieces_join (c : Dev nD) (b : Memref sig .tc sp s e) (R : T → Rect s)
    (hd : ∀ t t', t ≠ t' → Disjoint (R t).set (R t').set) (hc : ∀ x, ∃ t, x ∈ (R t).set) (q : PosShare TreeShare)
    [∀ e, Nonempty (Elt F e)]
    (X : (t : T) → (R t).shape.Idx → Elt F e) :
    bigSep Finset.univ (fun t => piece c b (R t) q (X t))
      ⊢ (iprop(∃ f : Buf (Elt F) (b.view.loc (c : Thread nD τ)), ⌜∀ t, (b.access (R t)).read (Elt F) f = X t⌝
          ∗ (b.view.loc (c : Thread nD τ) ↦[b.view.set]{q} f)) : sProp 𝕄) := by
  unfold piece
  refine (bigSep_exists_pi (Y := fun t => Buf (Elt F) ((b.access (R t)).loc (c : Thread nD τ))) Finset.univ _).trans ?_
  iintro ⟨%fs, H⟩
  ihave H := (bigSep_pure_sep Finset.univ (fun t => (b.access (R t)).read (Elt F) (fs t) = X t)
    (fun t => iprop((b.access (R t)).loc (c : Thread nD τ) ↦[(b.access (R t)).set]{q} fs t))) $$ H
  icases H with ⟨%hfs, H⟩
  ihave H := (show bigSep Finset.univ (fun t => ((b.access (R t)).loc (c : Thread nD τ) ↦[(b.access (R t)).set]{q} fs t)) ⊢ _ from
    pointsTo_biUnion_join (ℓ := b.view.loc (c : Thread nD τ)) (Ix := Unit) (Name := ℕ) (U := UU) (Lvl := ℕ) (q := q) Finset.univ (fun t => (b.access (R t)).set) fs (Classical.arbitrary _)
    (fun t _ t' _ ht => access_disjoint (hd t t' ht))) $$ H
  icases H with ⟨%g, %hg, H⟩
  iexists g
  isplitr
  · ipureintro
    intro t
    rw [← hfs t (Finset.mem_univ t)]
    exact View.read_congr fun i hi => hg t (Finset.mem_univ t) i hi
  · rw [access_cover R hc]
    iexact H

end Piece

end Cert.KernelIdeal.Exch

end
-- ==== Proof.KernelIdeal.Protocol.lean ====
/-
The exchange between the eight devices, as a protocol.

Device `c` multiplies its two blocks into a 1024 x 1024 matrix of partial sums. Sixteen parts of 64 rows are
addressed by a half `s` and a device `j`; part `(s, j)` goes to device `j`, which adds the eight parts it gets for
each half, applies the activation, and sends the finished 64 rows to everybody.

Semaphores, and who touches them (`c` the owner, `p` a peer, `s` a half):
* the barrier of `c`: each of the seven peers signals one unit, and with it hands over the four slots of ITS landing
  buffers that `c` will write (half 0 and 1 of both buffers, slot `c`); `c` waits for all seven;
* kind 0, `(s, p)`: `c`'s copy of part `(s, p)` has left; the part's own slot of the source buffer comes back;
* kind 1, `(s, p)`: `p`'s part `(s, c)` has landed in slot `(s, p)` of `c`'s first landing buffer;
* kind 2, `(s, p)`: `c`'s copy of its finished rows of half `s` to `p` has left; the share of the slot comes back;
* kind 3, `(s, p)`: `p`'s finished rows of half `s` have landed in slot `(s, p)` of `c`'s second landing buffer.
Every cell goes through one round.
-/
module

public import proofs.«01_k».proof.Proof.KernelIdeal.Pieces

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Peers -/

/-- The peer at distance `r + 1`. -/
def pr (c : Dev nD) (r : Fin 7) : Dev nD := ⟨(c.val + r.val + 1) % 8, Nat.mod_lt _ (by decide)⟩
/-- The distance at which a peer sees the device back. -/
def rev (r : Fin 7) : Fin 7 := ⟨6 - r.val, by omega⟩

theorem pr_rev : ∀ (c : Dev nD) (r : Fin 7), pr (pr c r) (rev r) = c := by decide
theorem rev_rev : ∀ r : Fin 7, rev (rev r) = r := by decide
theorem pr_ne : ∀ (c : Dev nD) (r : Fin 7), pr c r ≠ c := by decide
theorem pr_inj : ∀ (c : Dev nD) (r r' : Fin 7), pr c r = pr c r' → r = r' := by decide
theorem pr_surj : ∀ (c j : Dev nD), j ≠ c → ∃ r, pr c r = j := by decide

/-- A device with a distance, and the same pair seen from the other end. -/
def flip : Dev nD × Fin 7 ≃ Dev nD × Fin 7 where
  toFun p := (pr p.1 p.2, rev p.2)
  invFun p := (pr p.1 p.2, rev p.2)
  left_inv p := Prod.ext (pr_rev p.1 p.2) (rev_rev p.2)
  right_inv p := Prod.ext (pr_rev p.1 p.2) (rev_rev p.2)

/-- The seven distances, in the kernel's order. -/
abbrev all7 : List (Fin 7) := [0, 1, 2, 3, 4, 5, 6]

/-! ## The buffers and semaphores -/

abbrev aM : Memref sig .tc .vmem S1024x512 .bf16 := Memref.whole cc0_stg0_0
abbrev bM : Memref sig .tc .vmem S512x1024 .bf16 := Memref.whole cc0_stg1_0
abbrev outM : Memref sig .tc .vmem S1024x1024 .f32 := Memref.whole cc0_stg2_0
abbrev srcM : Memref sig .tc .vmem S2x8x64x1024 .bf16 := Memref.whole cc0_scratch0
abbrev rsM : Memref sig .tc .vmem S2x8x64x1024 .bf16 := Memref.whole cc0_scratch1
abbrev agM : Memref sig .tc .vmem S2x8x64x1024 .bf16 := Memref.whole cc0_scratch2

theorem slot_inb : ∀ (s : Fin 2) (i : Dev nD), ∀ a, (![s.val, i.val, 0, 0] : Fin 4 → Nat) a + S1x1x64x1024.size a ≤ S2x8x64x1024.size a := by decide
/-- Slot `(s, i)` of a scratch buffer. -/
abbrev slotR (s : Fin 2) (i : Dev nD) : Rect S2x8x64x1024 := Rect.unit (s := S2x8x64x1024) ![s.val, i.val, 0, 0] S1x1x64x1024.size (slot_inb s i)

theorem rows_inb : ∀ (s : Fin 2) (i : Dev nD), ∀ a, (![128 * i.val + 64 * s.val, 0] : Fin 2 → Nat) a + S64x1024.size a ≤ S1024x1024.size a := by decide
/-- The 64 rows of the result that half `s` of device `i` finishes. -/
abbrev rowR (s : Fin 2) (i : Dev nD) : Rect S1024x1024 := Rect.unit (s := S1024x1024) ![128 * i.val + 64 * s.val, 0] S64x1024.size (rows_inb s i)

abbrev barS : Sem sig := (SemArray.scalar (sig.barrier 0 rfl) : Sems sig S_).sem
/-- The copy semaphore of kind `k`, half `s`, index `i`. -/
def xsem (k : Fin 4) (s : Fin 2) (i : Dev nD) : DmaSem sig := ⟨3 + 16 * k.val + 8 * s.val + i.val, by
  have := k.isLt; have := s.isLt; have : i.val < 8 := i.isLt
  show 3 + 16 * k.val + 8 * s.val + i.val < 67
  omega⟩

abbrev barCell (c : Dev nD) : GSem nD τ sig := ((c : Thread nD τ), .reg barS)
abbrev xc (c : Dev nD) (k : Fin 4) (s : Fin 2) (i : Dev nD) : GSem nD τ sig := ((c : Thread nD τ), .dma (xsem k s i))

def kOf (q : DmaSem sig) : Fin 4 := ⟨((q.val - 3) / 16) % 4, Nat.mod_lt _ (by decide)⟩
def sOf (q : DmaSem sig) : Fin 2 := ⟨((q.val - 3) / 8) % 2, Nat.mod_lt _ (by decide)⟩
def iOf (q : DmaSem sig) : Dev nD := ⟨(q.val - 3) % 8, Nat.mod_lt _ (by decide)⟩

theorem kOf_xsem : ∀ k s i, kOf (xsem k s i) = k := by decide
theorem sOf_xsem : ∀ k s i, sOf (xsem k s i) = s := by decide
theorem iOf_xsem : ∀ k s i, iOf (xsem k s i) = i := by decide
theorem three_le_xsem (k s i) : 3 ≤ (xsem k s i).val := by unfold xsem; simp only; omega

/-- The credit of one copied slot. -/
abbrev N : ℕ := ((rsM.slice (slotR 0 0) (fun _ => rfl)).squeeze S64x1024 squeezes_S1x1x64x1024_S64x1024 : Memref sig .tc .vmem S64x1024 .bf16).view.dmaCredit
theorem N_pos : 0 < N := View.dmaCredit_pos _ (by decide)

/-! ## Contents -/

variable (m : (ℓ : Loc nD τ sig) → Buf (Elt F) ℓ)

/-- Device `c`'s block of the first argument. -/
def xA (c : Dev nD) : Vec F S1024x512 .bf16 := iblk m c 0 t0_0
/-- Device `c`'s block of the second argument. -/
def xB (c : Dev nD) : Vec F S512x1024 .bf16 := iblk m c 1 t0_0
/-- Device `c`'s partial sums. -/
def prod (c : Dev nD) : FVec F S1024x1024 .f32 := k0_pay1 (xA m c) (xB m c)

theorem slices_part : ∀ (s : Fin 2) (j : Dev nD), S1024x1024.Slices ![128 * j.val + 64 * s.val, 0] S64x1024 := by decide
/-- Part `(s, j)` of a matrix of partial sums, rounded to the format it travels in. -/
def part (P : FVec F S1024x1024 .f32) (s : Fin 2) (j : Dev nD) : FVec F S1x1x64x1024 .bf16 :=
  shapeCast S1x1x64x1024 (truncf .bf16 (extractStridedSlice S64x1024 ![128 * j.val + 64 * s.val, 0] P (slices_part s j)) bitsLt_bf16_f32)
    shapeCasts_S64x1024_S1x1x64x1024

/-- What slot `(s, j)` of `c`'s source buffer holds. -/
def srcV (c : Dev nD) (s : Fin 2) (j : Dev nD) : Vec F S1x1x64x1024 .bf16 := part (prod m c) s j
/-- The activation of the sum of eight parts. -/
def act (v : Dev nD → Vec F S1x1x64x1024 .bf16) : Vec F S1x1x64x1024 .bf16 :=
  k0_pay24 (k0_pay23 (v 0) (v 1) (v 2) (v 3) (v 4) (v 5)) (v 6) (v 7)
/-- The 64 finished rows of half `s` of device `i`. -/
def agV (i : Dev nD) (s : Fin 2) : Vec F S1x1x64x1024 .bf16 := act fun j => srcV m j s i
/-- The same rows in the result's format. -/
def outV (i : Dev nD) (s : Fin 2) : Vec F S64x1024 .f32 := k0_pay28 (agV m i s)

/-! ## What the cells hand over -/

/-- The four slots of device `p`'s landing buffers that device `i` writes. -/
def land (p i : Dev nD) : sProp 𝕄 :=
  iprop(someP (F := F) p rsM (slotR 0 i) ∗ someP (F := F) p rsM (slotR 1 i) ∗ someP (F := F) p agM (slotR 0 i) ∗ someP (F := F) p agM (slotR 1 i))

instance land_storable (p i : Dev nD) : BI.Storable (upEmb : UEmb _ 𝕄) (land (F := F) p i) := by unfold land; infer_instance

/-- The share of a finished slot lent to the copy to device `i`. -/
abbrev lent (i : Dev nD) : PosShare TreeShare := Transfers.shareTok fullShare 8 i

/-- What the round of the copy semaphore of kind `k`, half `s`, index `i` on device `c` hands over. -/
def xpay (c : Dev nD) (k : Fin 4) (s : Fin 2) (i : Dev nD) : sProp 𝕄 :=
  match k with
  | 0 => piece c srcM (slotR s i) fullShare (srcV m c s i)
  | 1 => piece c rsM (slotR s i) fullShare (srcV m i s c)
  | 2 => piece c agM (slotR s c) (lent i) (agV m c s)
  | 3 => piece c agM (slotR s i) fullShare (agV m i s)

instance xpay_storable (c : Dev nD) (k : Fin 4) (s : Fin 2) (i : Dev nD) : BI.Storable (upEmb : UEmb _ 𝕄) (xpay m c k s i) := by
  unfold xpay
  split <;> infer_instance

/-! ## The schedule -/

/-- Round 0 of a barrier has seven duties of one unit, duty `r` the signal of the peer at distance `r + 1`; round 0 of
    a copy semaphore whose index is not the device itself has one duty, the copy's credit. -/
def sched : Rounds.Schedule (GSem nD τ sig) (Fin 7) 𝕄 where
  duties g r := if r = 0 ∧ g.1.2 = .tc then (match g.2 with
    | .reg _ => Finset.univ
    | .dma q => if 3 ≤ q.val ∧ iOf q ≠ g.1.1 then {0} else ∅) else ∅
  unitless _ := False
  amount g _ _ := match g.2 with
    | .reg _ => 1
    | .dma _ => N
  payload g _ d := match g.2 with
    | .reg _ => land (pr g.1.1 d) g.1.1
    | .dma q => xpay m g.1.1 (kOf q) (sOf q) (iOf q)
  amount_pos g _ _ _ := by
    cases g.2 with
    | reg _ => exact Nat.one_pos
    | dma _ => exact N_pos

instance sched_payload_storable (g : GSem nD τ sig) (r : ℕ) (d : Fin 7) :
    BI.Storable (upEmb : UEmb _ 𝕄) ((sched (F := F) m).payload g r d) := by
  obtain ⟨t, sm⟩ := g
  cases sm <;> dsimp only [sched] <;> infer_instance

section Sched
variable (c : Dev nD) (k : Fin 4) (s : Fin 2) (i : Dev nD)

theorem duties_bar : (sched m).duties (barCell c) 0 = Finset.univ := by dsimp only [sched]; exact if_pos ⟨rfl, rfl⟩
theorem duties_x (h : i ≠ c) : (sched m).duties (xc c k s i) 0 = {0} := by
  dsimp only [sched]; rw [if_pos ⟨rfl, rfl⟩]; exact if_pos ⟨three_le_xsem k s i, by rw [iOf_xsem]; exact h⟩
theorem duties_own (r : ℕ) : (sched m).duties (xc c k s c) r = ∅ := by
  dsimp only [sched]; split
  · exact if_neg fun h => h.2 (iOf_xsem k s c)
  · rfl
theorem duties_later (g : GSem nD τ sig) : ∀ r, 1 ≤ r → (sched m).duties g r = ∅ :=
  fun r hr => by dsimp only [sched]; exact if_neg fun h => by omega
theorem amount_bar (r : ℕ) (d : Fin 7) : (sched m).amount (barCell c) r d = 1 := rfl
theorem amount_x (r : ℕ) (d : Fin 7) : (sched m).amount (xc c k s i) r d = N := rfl
theorem payload_bar (r : ℕ) (d : Fin 7) : (sched m).payload (barCell c) r d = land (pr c d) c := rfl
theorem payload_x (r : ℕ) (d : Fin 7) : (sched m).payload (xc c k s i) r d = xpay m c k s i := by
  dsimp only [sched]; rw [kOf_xsem, sOf_xsem, iOf_xsem]
theorem expect_bar : (sched m).expect (barCell c) 0 = 7 := by
  unfold Schedule.expect Schedule.amountOf
  rw [duties_bar, Finset.sum_congr rfl fun d _ => amount_bar m c 0 d, Finset.sum_const, Finset.card_univ, Fintype.card_fin, smul_eq_mul]
theorem expect_x (h : i ≠ c) : (sched m).expect (xc c k s i) 0 = N := by
  unfold Schedule.expect Schedule.amountOf; rw [duties_x m c k s i h, Finset.sum_singleton, amount_x]
theorem rest_bar : bigSep ((sched m).duties (barCell c) 0 \ ∅) (fun d => (sched m).payload (barCell c) 0 d)
    = bigSep Finset.univ fun d => land (F := F) (pr c d) c := by
  rw [Finset.sdiff_empty, duties_bar]; rfl
theorem rest_x (h : i ≠ c) : bigSep ((sched m).duties (xc c k s i) 0 \ ∅) (fun d => (sched m).payload (xc c k s i) 0 d) = xpay m c k s i := by
  rw [Finset.sdiff_empty, duties_x m c k s i h, bigSep_singleton, payload_x]

end Sched

/-! ## What a device owes, and the levels -/

/-- The tallies of a list of dues. -/
def owedL : List (GSem nD τ sig × ℕ) → CellTallies nD τ sig Unit
  | [] => 0
  | p :: l => owedL l + tallyAt p.1 () p.2

def sigL (c : Dev nD) (ds : List (Fin 7)) : List (GSem nD τ sig × ℕ) := ds.map fun r => (barCell (pr c r), 1)
def rsL (c : Dev nD) (s : Fin 2) (ds : List (Fin 7)) : List (GSem nD τ sig × ℕ) := ds.map fun r => (xc (pr c r) 1 s c, N)
def agL (c : Dev nD) (s : Fin 2) (ds : List (Fin 7)) : List (GSem nD τ sig × ℕ) := ds.map fun r => (xc (pr c r) 3 s c, N)

/-- What is still owed once the parts have been sent: the finished rows. -/
def dueAg (c : Dev nD) : List (GSem nD τ sig × ℕ) := agL c 0 all7 ++ (agL c 1 all7 ++ [])
/-- What is still owed once the barrier has been signalled: the parts, then the finished rows. -/
def dueRs (c : Dev nD) : List (GSem nD τ sig × ℕ) := rsL c 0 all7 ++ (rsL c 1 all7 ++ dueAg c)
/-- All a device owes at launch, in the order it pays. -/
def due (c : Dev nD) : List (GSem nD τ sig × ℕ) := sigL c all7 ++ dueRs c

theorem owedL_pos {l : List (GSem nD τ sig × ℕ)} {g : GSem nD τ sig} {u : Unit} (h : 0 < owedL l g u) : ∃ p ∈ l, p.1 = g := by
  induction l with
  | nil => exact absurd h (Nat.lt_irrefl 0)
  | cons p l ih =>
    by_cases hp : p.1 = g
    · exact ⟨p, List.mem_cons_self, hp⟩
    · have h' : 0 < owedL l g u := by
        unfold owedL at h
        rw [Pi.add_apply, Finsupp.add_apply, tallyAt_apply, if_neg (fun hh => hp hh.1.symm)] at h
        exact h
      obtain ⟨q, hq, e⟩ := ih h'
      exact ⟨q, List.mem_cons_of_mem _ hq, e⟩

def L (g : GSem nD τ sig) : Finset Unit := if g.1.2 = .tc then {()} else ∅
/-- Barriers at 1, landed parts at 2, landed finished rows at 3, everything else at 0. -/
def lv (g : GSem nD τ sig) (_ : Unit) : ℕ := match g.2 with
  | .reg _ => 1
  | .dma q => if q.val < 3 then 0 else match kOf q with
    | 0 => 0
    | 1 => 2
    | 2 => 0
    | 3 => 3

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_x (c : Dev nD) (k : Fin 4) (s : Fin 2) (i : Dev nD) : lv (xc c k s i) () = (![0, 2, 0, 3] : Fin 4 → ℕ) k := by
  dsimp only [lv]; rw [if_neg (by have := three_le_xsem k s i; omega), kOf_xsem]; fin_cases k <;> rfl

/-- A device may wait at a cell whose level lies below that of everything it still owes. -/
theorem mayWait_due (c : Dev nD) (sm : SemLoc sig) (l : List (GSem nD τ sig × ℕ))
    (h : ∀ p ∈ l, p.1.1.2 = .tc ∧ lv ((c : Thread nD τ), sm) () < lv p.1 ()) :
    (levAts L lv : sProp 𝕄) ⊢ MayWait (c : Thread nD τ) sm () (owedL l) :=
  MayOwe.of_cut (L := L) (lev := lv) (lv ((c : Thread nD τ), sm) ())
    (fun p hp => by rw [Finset.mem_singleton.mp hp, L_tc]; exact Finset.mem_singleton_self _)
    (fun g u hg => by
      obtain ⟨p, hp, rfl⟩ := owedL_pos hg
      unfold L; rw [if_pos (h p hp).1]; exact Finset.mem_singleton_self _)
    (fun p hp => by rw [Finset.mem_singleton.mp hp])
    (fun g u hg => by
      obtain ⟨p, hp, rfl⟩ := owedL_pos hg
      exact (h p hp).2)

theorem mem_rsL {c : Dev nD} {s : Fin 2} {ds : List (Fin 7)} {p} (h : p ∈ rsL c s ds) : p.1.1.2 = .tc ∧ lv p.1 () = 2 := by
  obtain ⟨r, -, rfl⟩ := List.mem_map.mp h; exact ⟨rfl, lv_x _ 1 s c⟩
theorem mem_agL {c : Dev nD} {s : Fin 2} {ds : List (Fin 7)} {p} (h : p ∈ agL c s ds) : p.1.1.2 = .tc ∧ lv p.1 () = 3 := by
  obtain ⟨r, -, rfl⟩ := List.mem_map.mp h; exact ⟨rfl, lv_x _ 3 s c⟩
theorem mem_sigL {c : Dev nD} {ds : List (Fin 7)} {p} (h : p ∈ sigL c ds) : p.1.1.2 = .tc ∧ lv p.1 () = 1 := by
  obtain ⟨r, -, rfl⟩ := List.mem_map.mp h; exact ⟨rfl, rfl⟩
/-- The finished rows owed sit at level 3. -/
theorem mem_dueAg {c : Dev nD} {p} (h : p ∈ dueAg c) : p.1.1.2 = .tc ∧ lv p.1 () = 3 := by
  unfold dueAg at h
  rw [List.append_nil] at h
  rcases List.mem_append.mp h with h | h
  exacts [mem_agL h, mem_agL h]
/-- Everything owed after the barrier sits at level 2 or 3. -/
theorem mem_dueRs {c : Dev nD} {p} (h : p ∈ dueRs c) : p.1.1.2 = .tc ∧ 2 ≤ lv p.1 () := by
  unfold dueRs at h
  rcases List.mem_append.mp h with h | h
  · exact ⟨(mem_rsL h).1, (mem_rsL h).2.ge⟩
  rcases List.mem_append.mp h with h | h
  · exact ⟨(mem_rsL h).1, (mem_rsL h).2.ge⟩
  · exact ⟨(mem_dueAg h).1, by rw [(mem_dueAg h).2]; decide⟩
theorem mem_due {c : Dev nD} {p} (h : p ∈ due c) : p.1.1.2 = .tc ∧ 1 ≤ lv p.1 () := by
  unfold due at h
  rcases List.mem_append.mp h with h | h
  · exact ⟨(mem_sigL h).1, (mem_sigL h).2.ge⟩
  · exact ⟨(mem_dueRs h).1, le_trans (by decide) (mem_dueRs h).2⟩

/-! ## The cells, their invariants and the ghost state a device starts from -/

/-- A device's cells: its barrier, and its copy semaphores by kind, half and index. -/
abbrev CI : Type := Option (Fin 4 × Fin 2 × Dev nD)
abbrev csem : CI → SemLoc sig
  | none => .reg barS
  | some (k, s, i) => .dma (xsem k s i)
abbrev kcell (p : Dev nD × CI) : GSem nD τ sig := ((p.1 : Thread nD τ), csem p.2)

/-- Every cell's invariant, and that it is at round 0 at least: what every device knows. -/
def records (K : Dev nD × CI → ℕ) : sProp 𝕄 :=
  bigSep Finset.univ fun p => iprop(cellInv ER (sched m) (K p) (kcell p) ∗ reached ER (kcell p) 0)

instance records_persistent (K : Dev nD × CI → ℕ) : BI.Persistent (records m K) := by unfold records; infer_instance

theorem rec_bar (K : Dev nD × CI → ℕ) (c : Dev nD) :
    records m K ⊢ iprop(cellInv ER (sched m) (K (c, none)) (barCell c) ∗ reached ER (barCell c) 0) :=
  bigSep_elim (Finset.mem_univ ((c, none) : Dev nD × CI))
theorem rec_x (K : Dev nD × CI → ℕ) (c : Dev nD) (k s i) :
    records m K ⊢ iprop(cellInv ER (sched m) (K (c, some (k, s, i))) (xc c k s i) ∗ reached ER (xc c k s i) 0) :=
  bigSep_elim (Finset.mem_univ ((c, some (k, s, i)) : Dev nD × CI))

end Cert.KernelIdeal.Exch

end
-- ==== Proof.KernelIdeal.Steps.lean ====
/-
One rule per kind of operation of the exchange: a signal, the wait for the barrier, a copy to a peer and a wait for a
copy. Each takes the head of a list of what is still to be done and leaves the tail.
-/
module

public import proofs.«01_k».proof.Proof.KernelIdeal.Protocol

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Lists of resources -/

/-- The resources of a list's members. -/
def seps {I : Type} : List I → (I → sProp 𝕄) → sProp 𝕄
  | [], _ => iprop(emp)
  | i :: l, Φ => iprop(Φ i ∗ seps l Φ)

theorem seps_cons {I : Type} (i : I) (l : List I) (Φ : I → sProp 𝕄) : seps (i :: l) Φ = iprop(Φ i ∗ seps l Φ) := rfl

theorem seps_eq {I : Type} [DecidableEq I] (Φ : I → sProp 𝕄) (l : List I) (h : l.Nodup) : seps l Φ = bigSep l.toFinset Φ := by
  induction l with
  | nil => exact bigSep_empty.symm
  | cons i l ih =>
    rw [List.nodup_cons] at h
    rw [List.toFinset_cons, bigSep_insert (by rw [List.mem_toFinset]; exact h.1), ← ih h.2]
    rfl

/-- A list that has every member once holds the resources of them all. -/
theorem seps_univ {I : Type} [Fintype I] [DecidableEq I] (Φ : I → sProp 𝕄) (l : List I) (h : l.Nodup) (h' : ∀ i, i ∈ l) :
    seps l Φ = bigSep Finset.univ Φ := by
  rw [seps_eq Φ l h, (Finset.eq_univ_of_forall fun i => List.mem_toFinset.mpr (h' i) : l.toFinset = Finset.univ)]

/-- A family over the devices: one device's member, and its peers'. -/
theorem peers_eq (c : Dev nD) (Φ : Dev nD → sProp 𝕄) :
    bigSep Finset.univ Φ = iprop(Φ c ∗ bigSep Finset.univ fun r : Fin 7 => Φ (pr c r)) := by
  have e : (Finset.univ : Finset (Dev nD)) = insert c ((Finset.univ : Finset (Fin 7)).map ⟨pr c, fun a b => pr_inj c a b⟩) := by
    revert c; decide
  have hn : c ∉ (Finset.univ : Finset (Fin 7)).map ⟨pr c, fun a b => pr_inj c a b⟩ := by
    rw [Finset.mem_map]; rintro ⟨r, -, h⟩; exact pr_ne c r h
  rw [e, bigSep_insert hn, bigSep_map]
  rfl

/-! ## The rules -/

variable (m : (ℓ : Loc nD τ sig) → Buf (Elt F) ℓ) (K : Dev nD × CI → ℕ) (c : Dev nD)

/-- Device `c` owes the dues of a list. -/
def owesE (l : List (GSem nD τ sig × ℕ)) : sProp 𝕄 := iprop(∃ W, owes (c : Thread nD τ) (owedL l) W)

/-- What signalling the peer at distance `r + 1` takes: the right to, and the slots handed over. -/
def sigRes (r : Fin 7) : sProp 𝕄 := iprop(dutyTok ER (barCell (pr c r)) 0 (rev r) ∗ land (F := F) c (pr c r))

theorem step_signal {r : Fin 7} {ds : List (Fin 7)} {rest : List (GSem nD τ sig × ℕ)} {n : Dev nD} (hn : n = pr c r)
    {α : Type} {Q : α → sProp 𝕄} {k : PUnit → Prog (TpuEff nD τ sig (Elt F) Λ₀ .tc) α} :
    iprop(records m K ∗ owesE (F := F) c (sigL c (r :: ds) ++ rest) ∗ seps (r :: ds) (sigRes (F := F) c))
      ⊢ iprop((owesE (F := F) c (sigL c ds ++ rest) -∗ seps ds (sigRes (F := F) c) -∗ run c (k ⟨⟩) Q)
          -∗ run c (.op (.semSignal (n : Thread nD τ) barS ((1#32 : BitVec 32).toInt)) k) Q) := by
  subst hn
  unfold owesE
  rw [seps_cons, sigRes]
  iintro ⟨#HK, ⟨%W, HO⟩, ⟨⟨Ht, Hp⟩, Hds⟩⟩ Hk
  ihave HI := (rec_bar m K (pr c r)) $$ HK
  icases HI with ⟨HI, Hr⟩
  iapply (Rounds.wp_signal 𝒱₀ ER (sched m) (c : Thread nD τ) none (dst := (pr c r : Thread nD τ)) (κ := K (pr c r, none))
      (d := rev r) (by rw [duties_bar]; exact Finset.mem_univ _) ((amount_bar m (pr c r) 0 (rev r)).trans (by decide)) () (owedL (sigL c ds ++ rest)) rfl)
    $$ [HI Hr HO Ht Hp]
  · isplitl [HI]; · iexact HI
    isplitl [HO]; · iexact HO
    isplitl [Ht]; · iexact Ht
    isplitl [Hp]; · rw [payload_bar, pr_rev]; iexact Hp
    iexact Hr
  iintro HO
  iapply Hk $$ [HO] Hds
  iexists W; iexact HO

/-- Waiting for the barrier: every peer's signal, and the slots it handed over. -/
theorem step_barrier {l : List (GSem nD τ sig × ℕ)} (hl : ∀ p ∈ l, p.1.1.2 = .tc ∧ 2 ≤ lv p.1 ())
    {α : Type} {Q : α → sProp 𝕄} {k : PUnit → Prog (TpuEff nD τ sig (Elt F) Λ₀ .tc) α} :
    iprop(records m K ∗ levAts L lv ∗ owesE (F := F) c l ∗ cred (tallyAt (barCell c) () 7) ∗ atPos ER (barCell c) 0 ∅ 0)
      ⊢ iprop((owesE (F := F) c l -∗ atPos ER (barCell c) 1 ∅ 0 -∗ bigSep Finset.univ (fun r => land (F := F) (pr c r) c) -∗ run c (k ⟨⟩) Q)
          -∗ run c (.op (.semWait barS ((7#32 : BitVec 32).toInt)) k) Q) := by
  unfold owesE
  iintro ⟨#HK, #Hlev, ⟨%W, HO⟩, Hc, Hat⟩ Hk
  ihave HI := (rec_bar m K c) $$ HK
  icases HI with ⟨HI, -⟩
  iapply (Rounds.wp_wait_rest_token 𝒱₀ ER (sched m) (c : Thread nD τ) none (κ := K (c, none))
      (wpE_semWait_eq 𝒱₀ (c : Thread nD τ) none Set.univ) (Set.mem_univ _) () (O := owedL l) (W := W) (R := 0) (m := 0) (T := ∅)
      (by rw [expect_bar]; decide)) $$ [HI HO Hc Hat]
  · isplitl [HI]; · iexact HI
    isplitl [Hc]; · iexact Hc
    isplitl [HO]; · iexact HO
    isplitr
    · iapply (mayWait_due c (.reg barS) l fun p hp => ⟨(hl p hp).1, (hl p hp).2⟩); iexact Hlev
    iexact Hat
  iintro ⟨HO, Hat, -, Hpay⟩
  ihave Hp := (Entails.of_eq (rest_bar m c)) $$ Hpay
  iapply Hk $$ [HO] [Hat] Hp
  · iexists (insert (SemLoc.reg barS, ()) W); iexact HO
  iexact Hat

section Copy

variable {s' : Shape} {e : EltTy}

/-- Reading a view's elements in another order of indices. -/
theorem read_of_reshape {κ : Kind} {sp : Space} {s s' : Shape} {e : EltTy} (v : View sig κ sp s e) (h : s'.numel = s.numel)
    (f : v.ty.Contents (Elt F)) (w : s'.Idx → Elt F e) (X : s.Idx → Elt F e)
    (hX : ∀ x, X (Shape.reshapeEquiv h x) = w x) :
    v.read (Elt F) ((v.reshape s' h).write (Elt F) f w Finset.univ) = X := by
  funext x
  obtain ⟨y, rfl⟩ := (Shape.reshapeEquiv h).surjective x
  rw [hX]
  exact congrFun (View.read_write_univ (v := v.reshape s' h) f w) y

/-- One slot of a scratch buffer, as the copies name it. -/
abbrev slotM (b : Memref sig .tc .vmem S2x8x64x1024 .bf16) (R : Rect S2x8x64x1024) (hR : R.shape.Squeezes S64x1024) (hr : ∀ a, R.stride a = 1) :
    Memref sig .tc .vmem S64x1024 .bf16 := (b.slice R hr).squeeze S64x1024 hR

theorem piece_open {b : Memref sig .tc .vmem S2x8x64x1024 .bf16} {R : Rect S2x8x64x1024} {hR : R.shape.Squeezes S64x1024} {hr : ∀ a, R.stride a = 1}
    {q : PosShare TreeShare} {X : R.shape.Idx → Elt F .bf16} :
    piece c b R q X ⊢ (iprop(∃ f : Buf (Elt F) ((slotM b R hR hr).view.loc (c : Thread nD τ)), ⌜(b.access R).read (Elt F) f = X⌝
      ∗ ((slotM b R hR hr).view.loc (c : Thread nD τ) ↦[(slotM b R hR hr).view.set]{q} f)) : sProp 𝕄) := by
  have e : (slotM b R hR hr).view.set = (b.access R).set := View.set_reshape _ hR.numel_eq
  rw [e]
  exact BI.Entails.refl _

theorem piece_close {b : Memref sig .tc .vmem S2x8x64x1024 .bf16} {R : Rect S2x8x64x1024} {hR : R.shape.Squeezes S64x1024} {hr : ∀ a, R.stride a = 1}
    {q : PosShare TreeShare} {X : R.shape.Idx → Elt F .bf16} {f : Buf (Elt F) ((slotM b R hR hr).view.loc (c : Thread nD τ))}
    (hf : (b.access R).read (Elt F) f = X) :
    ((slotM b R hR hr).view.loc (c : Thread nD τ) ↦[(slotM b R hR hr).view.set]{q} f) ⊢ (piece c b R q X : sProp 𝕄) := by
  have e : (slotM b R hR hr).view.set = (b.access R).set := View.set_reshape _ hR.numel_eq
  rw [e, ← hf]
  exact piece_intro c

/-- Every slot's copy is worth the same credit. -/
theorem slot_credit {b : Memref sig .tc .vmem S2x8x64x1024 .bf16} {R : Rect S2x8x64x1024} {hR : R.shape.Squeezes S64x1024} {hr : ∀ a, R.stride a = 1} :
    (slotM b R hR hr).view.dmaCredit = N := rfl

/-- The rectangle of one slot at given offsets. -/
abbrev unitR (off : Fin 4 → Nat) (inb : ∀ a, off a + S1x1x64x1024.size a ≤ S2x8x64x1024.size a) : Rect S2x8x64x1024 :=
  Rect.unit (s := S2x8x64x1024) off S1x1x64x1024.size inb

theorem slot_read {b₁ b₂ : Memref sig .tc .vmem S2x8x64x1024 .bf16} {off₁ off₂ : Fin 4 → Nat} {inb₁ inb₂}
    {hr₁ : ∀ a, (unitR off₁ inb₁).stride a = 1} {hr₂ : ∀ a, (unitR off₂ inb₂).stride a = 1}
    {f : (slotM b₁ (unitR off₁ inb₁) squeezes_S1x1x64x1024_S64x1024 hr₁).view.ty.Contents (Elt F)}
    {g : (slotM b₂ (unitR off₂ inb₂) squeezes_S1x1x64x1024_S64x1024 hr₂).view.ty.Contents (Elt F)} {X : Vec F S1x1x64x1024 .bf16}
    (hf : (b₁.access (unitR off₁ inb₁)).read (Elt F) f = X) :
    (b₂.access (unitR off₂ inb₂)).read (Elt F) ((slotM b₂ (unitR off₂ inb₂) squeezes_S1x1x64x1024_S64x1024 hr₂).view.write (Elt F) g
        ((slotM b₁ (unitR off₁ inb₁) squeezes_S1x1x64x1024_S64x1024 hr₁).view.read (Elt F) f) Finset.univ) = X := by
  refine read_of_reshape (b₂.access (unitR off₂ inb₂)) squeezes_S1x1x64x1024_S64x1024.numel_eq g _ X fun x => ?_
  rw [← hf]
  rfl

/-- A copy to a peer: the source piece and its share go with the copy to the cell that tells the copy has left, the
    destination piece with the source's contents to the cell that tells it has landed. -/
theorem step_copy {n n' : Dev nD} (hn : n' = n) {b₁ b₂ : Memref sig .tc .vmem S2x8x64x1024 .bf16}
    {off₁ off₁' off₂ off₂' : Fin 4 → Nat} {inb₁ inb₁' inb₂ inb₂'} (h₁ : off₁' = off₁) (h₂ : off₂' = off₂)
    {k₁ k₂ : Fin 4} {s₁ s₂ : Fin 2} {i₁ i₂ : Dev nD} {qS qR : DmaSem sig} (hqS : qS = xsem k₁ s₁ i₁) (hqR : qR = xsem k₂ s₂ i₂)
    (hi₁ : i₁ ≠ c) (hi₂ : i₂ ≠ n) {q : PosShare TreeShare} {X : Vec F S1x1x64x1024 .bf16}
    (hpay₁ : piece c b₁ (unitR off₁ inb₁) q X ⊢ xpay m c k₁ s₁ i₁)
    (hpay₂ : piece n b₂ (unitR off₂ inb₂) fullShare X ⊢ xpay m n k₂ s₂ i₂)
    {l : List (GSem nD τ sig × ℕ)} {hr₁ : ∀ a, (unitR off₁' inb₁').stride a = 1} {hr₂ : ∀ a, (unitR off₂' inb₂').stride a = 1} {hsc hw₁ hw₂ ht}
    {α : Type} {Q : α → sProp 𝕄} {k : PUnit → Prog (TpuEff nD τ sig (Elt F) Λ₀ .tc) α} :
    iprop(records m K ∗ piece c b₁ (unitR off₁ inb₁) q X ∗ someP (F := F) n b₂ (unitR off₂ inb₂)
        ∗ owesE (F := F) c ((xc n k₂ s₂ i₂, N) :: l)
        ∗ dutyTok ER (xc c k₁ s₁ i₁) 0 0 ∗ dutyTok ER (xc n k₂ s₂ i₂) 0 0)
      ⊢ iprop((owesE (F := F) c l -∗ cred (tallyAt (xc c k₁ s₁ i₁) () N) -∗ run c (k ⟨⟩) Q)
          -∗ run c (.op (.enqueueDma (slotM b₁ (unitR off₁' inb₁') squeezes_S1x1x64x1024_S64x1024 hr₁)
              (.remote (Dev.tc n' : Thread nD τ) (slotM b₂ (unitR off₂' inb₂') squeezes_S1x1x64x1024_S64x1024 hr₂)
                (.dma qS) hsc) (.dma qR) hw₁ hw₂ ht) k) Q) := by
  subst hn
  subst h₁
  subst h₂
  subst hqS
  subst hqR
  unfold owesE someP
  iintro ⟨#HK, H₁, ⟨%Y, H₂⟩, ⟨%W, HO⟩, Ht₁, Ht₂⟩ Hk
  ihave H₁ := (piece_open (hR := squeezes_S1x1x64x1024_S64x1024) (hr := hr₁) c) $$ H₁
  icases H₁ with ⟨%f, %hf, H₁⟩
  ihave H₂ := (piece_open (hR := squeezes_S1x1x64x1024_S64x1024) (hr := hr₂) n') $$ H₂
  icases H₂ with ⟨%g, %hg, H₂⟩
  ihave HI₁ := (rec_x m K c k₁ s₁ i₁) $$ HK
  icases HI₁ with ⟨HI₁, Hr₁⟩
  ihave HI₂ := (rec_x m K n' k₂ s₂ i₂) $$ HK
  icases HI₂ with ⟨HI₂, Hr₂⟩
  iapply (Rounds.wp_send_pointsTo 𝒱₀ ER (sched m) (c : Thread nD τ) none (κ₁ := K (c, some (k₁, s₁, i₁))) (κ₂ := K (n', some (k₂, s₂, i₂)))
      (r₁ := 0) (r₂ := 0) (d₁ := 0) (d₂ := 0) (fs := f) (fd := g) (q := q)
      (by rw [duties_x m c k₁ s₁ i₁ hi₁]; exact Finset.mem_singleton_self _) (by rw [duties_x m n' k₂ s₂ i₂ hi₂]; exact Finset.mem_singleton_self _)
      () () N (by exact slot_credit) rfl rfl (owedL l) rfl (W := W)
      (by rw [payload_x]; exact (piece_close c hf).trans hpay₁)
      (by rw [payload_x]; exact (piece_close n' (slot_read hf)).trans hpay₂)) $$ [HI₁ HI₂ H₁ H₂ HO Ht₁ Ht₂ Hr₁ Hr₂]
  · isplitl [HI₁]; · iexact HI₁
    isplitl [HI₂]; · iexact HI₂
    isplitl [H₁]; · iexact H₁
    isplitl [H₂]; · iexact H₂
    isplitl [HO]; · iexact HO
    isplitl [Ht₁]; · iexact Ht₁
    isplitl [Hr₁]; · iexact Hr₁
    isplitl [Ht₂]; · iexact Ht₂
    iexact Hr₂
  iintro ⟨Hc, HO⟩
  iapply Hk $$ [HO] Hc
  iexists W; iexact HO

end Copy

/-- Waiting for a copy's cell: what it hands over. -/
theorem step_wait {k₁ : Fin 4} {s₁ : Fin 2} {i₁ : Dev nD} (hi : i₁ ≠ c) {sem : DmaSem sig} (hsem : sem = xsem k₁ s₁ i₁)
    {l : List (GSem nD τ sig × ℕ)} (hl : ∀ p ∈ l, p.1.1.2 = .tc ∧ lv (xc c k₁ s₁ i₁) () < lv p.1 ())
    {sp sp' : Space} {sh sh' : Shape} {e e' : EltTy} {src : Memref sig .tc sp' sh' e'} {dst : Memref sig .tc sp sh e}
    (hN : dst.view.dmaCredit = N) {hw₁ : src.view.WordExact} {hw₂ : dst.view.WordExact}
    {α : Type} {Q : α → sProp 𝕄} {k : PUnit → Prog (TpuEff nD τ sig (Elt F) Λ₀ .tc) α} :
    iprop(records m K ∗ levAts L lv ∗ owesE (F := F) c l ∗ cred (tallyAt (xc c k₁ s₁ i₁) () N) ∗ atPos ER (xc c k₁ s₁ i₁) 0 ∅ 0)
      ⊢ iprop((owesE (F := F) c l -∗ atPos ER (xc c k₁ s₁ i₁) 1 ∅ 0 -∗ xpay m c k₁ s₁ i₁ -∗ run c (k ⟨⟩) Q)
          -∗ run c (.op (.waitDma2 sem src dst hw₁ hw₂) k) Q) := by
  subst hsem
  unfold owesE
  iintro ⟨#HK, #Hlev, ⟨%W, HO⟩, Hc, Hat⟩ Hk
  ihave HI := (rec_x m K c k₁ s₁ i₁) $$ HK
  icases HI with ⟨HI, -⟩
  iapply (Rounds.wp_wait_rest_token 𝒱₀ ER (sched m) (c : Thread nD τ) none (κ := K (c, some (k₁, s₁, i₁)))
      (wpE_waitDma2_eq 𝒱₀ (c : Thread nD τ) none Set.univ) (Set.mem_univ _) () (O := owedL l) (W := W) (R := 0) (m := 0) (T := ∅)
      (by rw [Nat.zero_add, expect_x m c k₁ s₁ i₁ hi, hN])) $$ [HI HO Hc Hat]
  · isplitl [HI]; · iexact HI
    isplitl [Hc]; · rw [hN]; iexact Hc
    isplitl [HO]; · iexact HO
    isplitr
    · iapply (mayWait_due c (.dma (xsem k₁ s₁ i₁)) l hl); iexact Hlev
    iexact Hat
  iintro ⟨HO, Hat, -, Hpay⟩
  ihave Hp := (Entails.of_eq (rest_x m c k₁ s₁ i₁ hi)) $$ Hpay
  iapply Hk $$ [HO] [Hat] Hp
  · iexists (insert (SemLoc.dma (xsem k₁ s₁ i₁), ()) W); iexact HO
  iexact Hat

end Cert.KernelIdeal.Exch

end
-- ==== Proof.KernelIdeal.Phases.lean ====
/-
The operations of the exchange in the order of the kernel: signalling the peers, filling the source slots, sending the
parts, waiting, reading, sending the finished rows, writing the result. A phase keeps a list of what is still to be
done and one of what has been done, and each rule moves one member from the first to the second.
-/
module

public import proofs.«01_k».proof.Proof.KernelIdeal.Steps

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The kernel's offsets, semaphores and devices, as halves and peers -/

/-- The four arrays of copy semaphores. -/
abbrev semA : Fin 4 → DmaSems sig S2x8
  | 0 => cc0_scratch3
  | 1 => cc0_scratch4
  | 2 => cc0_scratch5
  | 3 => cc0_scratch6

theorem pair_inb : ∀ (s : Fin 2) (i : Dev nD), ∀ a, (![s.val, i.val] : Fin 2 → Nat) a + S1x1.size a ≤ S2x8.size a := by decide

theorem sem_canon : ∀ (k : Fin 4) (s : Fin 2) (i : Dev nD),
    (((semA k).slice (Rect.unit (s := S2x8) ![s.val, i.val] S1x1.size (pair_inb s i))).squeeze S_ squeezes_S1x1_S_).sem = xsem k s i := by
  decide

/-- Element `(s, i)` of the semaphore array of kind `k`. -/
theorem sem_eq (k : Fin 4) {s : Fin 2} {i : Dev nD} {off : Fin 2 → Nat} (h : off = ![s.val, i.val])
    {inb : ∀ a, off a + S1x1.size a ≤ S2x8.size a} :
    (((semA k).slice (Rect.unit (s := S2x8) off S1x1.size inb)).squeeze S_ squeezes_S1x1_S_).sem = xsem k s i := by
  subst h; exact sem_canon k s i

section Offsets
variable (c : Dev nD) (r : Fin 7)

theorem off1' : k0_off1 c (BitVec.ofNat 32 (1 + r.val)) = ![(0 : Fin 2).val, (pr c r).val] := k0_off1_eq c r
theorem off2' : k0_off2 c = ![(0 : Fin 2).val, c.val] := k0_off2_eq c
theorem off3' : k0_off3 c = ![(0 : Fin 2).val, c.val, 0, 0] := k0_off3_eq c
theorem off4' : k0_off4 c (BitVec.ofNat 32 (1 + r.val)) = ![(0 : Fin 2).val, (pr c r).val, 0, 0] := k0_off4_eq c r
theorem off5' : k0_off5 c = ![(0 : Fin 2).val, c.val, 0, 0] := k0_off5_eq c
theorem off6' : k0_off6 c (BitVec.ofNat 32 (1 + r.val)) = ![(1 : Fin 2).val, (pr c r).val] := k0_off6_eq c r
theorem off7' : k0_off7 c = ![(1 : Fin 2).val, c.val] := k0_off7_eq c
theorem off8' : k0_off8 c = ![(1 : Fin 2).val, c.val, 0, 0] := k0_off8_eq c
theorem off9' : k0_off9 c (BitVec.ofNat 32 (1 + r.val)) = ![(1 : Fin 2).val, (pr c r).val, 0, 0] := k0_off9_eq c r
theorem off10' : k0_off10 c = ![(1 : Fin 2).val, c.val, 0, 0] := k0_off10_eq c

end Offsets

/-- A device named by its number is the peer at distance `r + 1`. -/
theorem dev_eq {c : Dev nD} (r : Fin 7) {n : Nat} {h : n < 8} (e : n = (c.val + r.val + 1) % 8) : (⟨n, h⟩ : Dev nD) = pr c r := Fin.ext e

/-! ## The rules by phases -/

variable (m : (ℓ : Loc nD τ sig) → Buf (Elt F) ℓ) (K : Dev nD × CI → ℕ) (c : Dev nD)

/-- What every device knows: the cells' invariants and the levels. -/
def know : sProp 𝕄 := iprop(records m K ∗ levAts L lv)

instance know_persistent : BI.Persistent (know m K) := by unfold know; infer_instance

/-- Signalling: what is owed, and what the signals still to be sent take. -/
def SigSt (ds : List (Fin 7)) (rest : List (GSem nD τ sig × ℕ)) : sProp 𝕄 :=
  iprop(owesE (F := F) c (sigL c ds ++ rest) ∗ seps ds (sigRes (F := F) c))

theorem step_sig {r : Fin 7} {ds : List (Fin 7)} {rest : List (GSem nD τ sig × ℕ)} {n : Dev nD} (hn : n = pr c r)
    {α : Type} {Q : α → sProp 𝕄} {k : PUnit → Prog (TpuEff nD τ sig (Elt F) Λ₀ .tc) α} :
    know m K ⊢ iprop(SigSt (F := F) c (r :: ds) rest
        -∗ (SigSt (F := F) c ds rest -∗ run c (k ⟨⟩) Q)
          -∗ run c (.op (.semSignal (n : Thread nD τ) barS ((1#32 : BitVec 32).toInt)) k) Q) := by
  unfold know SigSt
  iintro ⟨HK, -⟩ ⟨HO, Hs⟩ Hk
  iapply (step_signal m K c hn) $$ [HK HO Hs]
  · isplitl [HK]; · iexact HK
    isplitl [HO]; · iexact HO
    iexact Hs
  iintro HO Hs
  iapply Hk
  isplitl [HO]; · iexact HO
  iexact Hs

/-- The slots of half `s` of buffer `b`: those still to be filled, and those that hold their values. -/
def FillSt {S : Shape} {e : EltTy} (b : Memref sig .tc .vmem S e) (R : Dev nD → Rect S) (X : (i : Dev nD) → (R i).shape.Idx → Elt F e)
    (js done : List (Dev nD)) : sProp 𝕄 :=
  iprop(seps js (fun j => someP (F := F) c b (R j)) ∗ seps done (fun j => piece c b (R j) fullShare (X j)))

section Fill
variable {S : Shape} {e : EltTy} {b : Memref sig .tc .vmem S e} {sz : Fin S.rank → Nat} {off₀ : Dev nD → Fin S.rank → Nat}
  {inb₀ : ∀ j, ∀ a, off₀ j a + sz a ≤ S.size a} {off : Fin S.rank → Nat} {inb : ∀ a, off a + sz a ≤ S.size a}
  {X : (i : Dev nD) → (Rect.unit (s := S) (off₀ i) sz (inb₀ i)).shape.Idx → Elt F e}
  {j : Dev nD} {js done : List (Dev nD)}

/-- Loading from the slot that is filled next. -/
theorem step_peek (hoff : off = off₀ j) {hl : b.view.LoadsAt (Rect.unit off sz inb).toLoadRect}
    {α : Type} {Q : α → sProp 𝕄} {k : ((Rect.unit off sz inb).toLoadRect.shape.Idx → Elt F e) → Prog (TpuEff nD τ sig (Elt F) Λ₀ .tc) α} :
    FillSt c b (fun i => Rect.unit (off₀ i) sz (inb₀ i)) X (j :: js) done
      ⊢ iprop((∀ Y, FillSt c b (fun i => Rect.unit (off₀ i) sz (inb₀ i)) X (j :: js) done -∗ run c (k Y) Q)
          -∗ run c (.op (.load b (Rect.unit off sz inb).toLoadRect hl) k) Q) := by
  unfold FillSt
  rw [seps_cons, someP]
  iintro ⟨⟨⟨%Y, H⟩, Hs⟩, Hd⟩ Hk
  iapply (load_piece c hoff) $$ H
  iintro H
  iapply Hk $$ %Y
  isplitr [Hd]
  · isplitl [H]; · iexists Y; iexact H
    iexact Hs
  iexact Hd

/-- Filling a slot. -/
theorem step_pour (hoff : off = off₀ j) {w : (Rect.unit off sz inb).shape.Idx → Elt F e} (hw : w = X j)
    {hx : (b.access (Rect.unit off sz inb)).Stores Finset.univ}
    {hm : (Finset.univ : Finset (Rect.unit off sz inb).shape.Idx) = Finset.univ ∨ ∀ a, (Rect.unit off sz inb).stride a = 1}
    {α : Type} {Q : α → sProp 𝕄} {k : PUnit → Prog (TpuEff nD τ sig (Elt F) Λ₀ .tc) α} :
    FillSt c b (fun i => Rect.unit (off₀ i) sz (inb₀ i)) X (j :: js) done
      ⊢ iprop((FillSt c b (fun i => Rect.unit (off₀ i) sz (inb₀ i)) X js (j :: done) -∗ run c (k ⟨⟩) Q)
          -∗ run c (.op (.store b (Rect.unit off sz inb) w Finset.univ hx hm) k) Q) := by
  unfold FillSt
  rw [seps_cons, seps_cons, someP]
  iintro ⟨⟨⟨%Y, H⟩, Hs⟩, Hd⟩ Hk
  iapply (store_piece c hoff hw) $$ H
  iintro H
  iapply Hk
  isplitl [Hs]; · iexact Hs
  isplitl [H]; · iexact H
  iexact Hd

/-- A load from the slot, whose value is not used, and the store that fills it. -/
theorem step_put (hoff : off = off₀ j) {w : (Rect.unit off sz inb).shape.Idx → Elt F e} (hw : w = X j)
    {hl : b.view.LoadsAt (Rect.unit off sz inb).toLoadRect}
    {hx : (b.access (Rect.unit off sz inb)).Stores Finset.univ}
    {hm : (Finset.univ : Finset (Rect.unit off sz inb).shape.Idx) = Finset.univ ∨ ∀ a, (Rect.unit off sz inb).stride a = 1}
    {α : Type} {Q : α → sProp 𝕄} {k : PUnit → Prog (TpuEff nD τ sig (Elt F) Λ₀ .tc) α} :
    FillSt c b (fun i => Rect.unit (off₀ i) sz (inb₀ i)) X (j :: js) done
      ⊢ iprop((FillSt c b (fun i => Rect.unit (off₀ i) sz (inb₀ i)) X js (j :: done) -∗ run c (k ⟨⟩) Q)
          -∗ run c (.op (.load b (Rect.unit off sz inb).toLoadRect hl) fun _ => .op (.store b (Rect.unit off sz inb) w Finset.univ hx hm) k) Q) := by
  iintro H Hk
  iapply (step_peek c hoff) $$ H
  iintro %Y H
  iapply (step_pour c hoff hw) $$ H
  iexact Hk

/-- A load from one of a family of slots that all hold known values. -/
theorem step_get (q : Dev nD → PosShare TreeShare) (hoff : off = off₀ j) {hl : b.view.LoadsAt (Rect.unit off sz inb).toLoadRect}
    {α : Type} {Q : α → sProp 𝕄} {k : ((Rect.unit off sz inb).toLoadRect.shape.Idx → Elt F e) → Prog (TpuEff nD τ sig (Elt F) Λ₀ .tc) α} :
    (bigSep Finset.univ fun i => piece c b (Rect.unit (off₀ i) sz (inb₀ i)) (q i) (X i))
      ⊢ iprop(((bigSep Finset.univ fun i => piece c b (Rect.unit (off₀ i) sz (inb₀ i)) (q i) (X i)) -∗ run c (k (X j)) Q)
          -∗ run c (.op (.load b (Rect.unit off sz inb).toLoadRect hl) k) Q) := by
  rw [show bigSep Finset.univ (fun i => piece c b (Rect.unit (off₀ i) sz (inb₀ i)) (q i) (X i))
    = iprop(piece c b (Rect.unit (off₀ j) sz (inb₀ j)) (q j) (X j)
      ∗ bigSep (Finset.univ.erase j) fun i => piece c b (Rect.unit (off₀ i) sz (inb₀ i)) (q i) (X i)) from by
    conv_lhs => rw [← Finset.insert_erase (Finset.mem_univ j)]
    rw [bigSep_insert (Finset.notMem_erase j _)]; rfl]
  iintro ⟨H, Hs⟩ Hk
  iapply (load_piece c hoff) $$ H
  iintro H
  iapply Hk
  isplitl [H]; · iexact H
  iexact Hs

end Fill

/-- A copy that has left: the credit for waiting on its cell. -/
def sentRes (k : Fin 4) (s : Fin 2) (r : Fin 7) : sProp 𝕄 := cred (tallyAt (xc c k s (pr c r)) () N)

/-- What sending part `(s, pr c r)` takes. -/
def rsRes (s : Fin 2) (r : Fin 7) : sProp 𝕄 :=
  iprop(piece c srcM (slotR s (pr c r)) fullShare (srcV m c s (pr c r)) ∗ someP (F := F) (pr c r) rsM (slotR s c)
    ∗ dutyTok ER (xc c 0 s (pr c r)) 0 0 ∗ dutyTok ER (xc (pr c r) 1 s c) 0 0)

/-- Sending the parts of half `s`: what is owed, the sends to come, and the sends that are on their way. -/
def RsSt (s : Fin 2) (ds es : List (Fin 7)) (rest : List (GSem nD τ sig × ℕ)) : sProp 𝕄 :=
  iprop(owesE (F := F) c (rsL c s ds ++ rest) ∗ seps ds (rsRes m c s) ∗ seps es (sentRes (F := F) c 0 s))

/-- What sending the finished rows of half `s` to the peer at distance `r + 1` takes. -/
def agRes (s : Fin 2) (r : Fin 7) : sProp 𝕄 :=
  iprop(piece c agM (slotR s c) (lent (pr c r)) (agV m c s) ∗ someP (F := F) (pr c r) agM (slotR s c)
    ∗ dutyTok ER (xc c 2 s (pr c r)) 0 0 ∗ dutyTok ER (xc (pr c r) 3 s c) 0 0)

/-- Sending the finished rows of half `s`. -/
def AgSt (s : Fin 2) (ds es : List (Fin 7)) (rest : List (GSem nD τ sig × ℕ)) : sProp 𝕄 :=
  iprop(owesE (F := F) c (agL c s ds ++ rest) ∗ seps ds (agRes m c s) ∗ seps es (sentRes (F := F) c 2 s))

section Send

theorem step_rs (s : Fin 2)
    {r : Fin 7} {ds es : List (Fin 7)} {rest : List (GSem nD τ sig × ℕ)} {n : Dev nD} {off₁ off₂ : Fin 4 → Nat} {inb₁ inb₂}
    {oS oR : Fin 2 → Nat} {inbS : ∀ a, oS a + S1x1.size a ≤ S2x8.size a} {inbR : ∀ a, oR a + S1x1.size a ≤ S2x8.size a}
    (hn : n = pr c r) (h₁ : off₁ = ![s.val, (pr c r).val, 0, 0]) (h₂ : off₂ = ![s.val, c.val, 0, 0])
    (hS : oS = ![s.val, (pr c r).val]) (hR : oR = ![s.val, c.val])
    {hr₁ : ∀ a, (unitR off₁ inb₁).stride a = 1} {hr₂ : ∀ a, (unitR off₂ inb₂).stride a = 1} {hsc hw₁ hw₂ ht}
    {α : Type} {Q : α → sProp 𝕄} {k : PUnit → Prog (TpuEff nD τ sig (Elt F) Λ₀ .tc) α} :
    know m K ⊢ iprop(RsSt m c s (r :: ds) es rest
        -∗ (RsSt m c s ds (r :: es) rest -∗ run c (k ⟨⟩) Q)
          -∗ run c (.op (.enqueueDma (slotM srcM (unitR off₁ inb₁) squeezes_S1x1x64x1024_S64x1024 hr₁)
              (.remote (Dev.tc n : Thread nD τ) (slotM rsM (unitR off₂ inb₂) squeezes_S1x1x64x1024_S64x1024 hr₂)
                (.dma ((cc0_scratch3.slice (Rect.unit (s := S2x8) oS S1x1.size inbS)).squeeze S_ squeezes_S1x1_S_).sem) hsc)
                (.dma ((cc0_scratch4.slice (Rect.unit (s := S2x8) oR S1x1.size inbR)).squeeze S_ squeezes_S1x1_S_).sem) hw₁ hw₂ ht) k) Q) := by
  unfold know RsSt
  rw [seps_cons, seps_cons, rsRes]
  iintro ⟨HK, -⟩ ⟨HO, ⟨⟨H₁, H₂, Ht₁, Ht₂⟩, Hs⟩, Hd⟩ Hk
  iapply (step_copy m K c hn h₁ h₂ (sem_eq 0 hS) (sem_eq 1 hR) (pr_ne c r) (pr_ne c r).symm (BI.Entails.refl _) (BI.Entails.refl _)) $$ [HK HO H₁ H₂ Ht₁ Ht₂]
  · isplitl [HK]; · iexact HK
    isplitl [H₁]; · iexact H₁
    isplitl [H₂]; · iexact H₂
    isplitl [HO]; · iexact HO
    isplitl [Ht₁]; · iexact Ht₁
    iexact Ht₂
  iintro HO Hc
  iapply Hk
  isplitl [HO]; · iexact HO
  isplitl [Hs]; · iexact Hs
  isplitl [Hc]; · unfold sentRes; iexact Hc
  iexact Hd

theorem step_ag (s : Fin 2)
    {r : Fin 7} {ds es : List (Fin 7)} {rest : List (GSem nD τ sig × ℕ)} {n : Dev nD} {off₁ off₂ : Fin 4 → Nat} {inb₁ inb₂}
    {oS oR : Fin 2 → Nat} {inbS : ∀ a, oS a + S1x1.size a ≤ S2x8.size a} {inbR : ∀ a, oR a + S1x1.size a ≤ S2x8.size a}
    (hn : n = pr c r) (h₁ : off₁ = ![s.val, c.val, 0, 0]) (h₂ : off₂ = ![s.val, c.val, 0, 0])
    (hS : oS = ![s.val, (pr c r).val]) (hR : oR = ![s.val, c.val])
    {hr₁ : ∀ a, (unitR off₁ inb₁).stride a = 1} {hr₂ : ∀ a, (unitR off₂ inb₂).stride a = 1} {hsc hw₁ hw₂ ht}
    {α : Type} {Q : α → sProp 𝕄} {k : PUnit → Prog (TpuEff nD τ sig (Elt F) Λ₀ .tc) α} :
    know m K ⊢ iprop(AgSt m c s (r :: ds) es rest
        -∗ (AgSt m c s ds (r :: es) rest -∗ run c (k ⟨⟩) Q)
          -∗ run c (.op (.enqueueDma (slotM agM (unitR off₁ inb₁) squeezes_S1x1x64x1024_S64x1024 hr₁)
              (.remote (Dev.tc n : Thread nD τ) (slotM agM (unitR off₂ inb₂) squeezes_S1x1x64x1024_S64x1024 hr₂)
                (.dma ((cc0_scratch5.slice (Rect.unit (s := S2x8) oS S1x1.size inbS)).squeeze S_ squeezes_S1x1_S_).sem) hsc)
                (.dma ((cc0_scratch6.slice (Rect.unit (s := S2x8) oR S1x1.size inbR)).squeeze S_ squeezes_S1x1_S_).sem) hw₁ hw₂ ht) k) Q) := by
  unfold know AgSt
  rw [seps_cons, seps_cons, agRes]
  iintro ⟨HK, -⟩ ⟨HO, ⟨⟨H₁, H₂, Ht₁, Ht₂⟩, Hs⟩, Hd⟩ Hk
  iapply (step_copy m K c hn h₁ h₂ (sem_eq 2 hS) (sem_eq 3 hR) (pr_ne c r) (pr_ne c r).symm (BI.Entails.refl _) (BI.Entails.refl _)) $$ [HK HO H₁ H₂ Ht₁ Ht₂]
  · isplitl [HK]; · iexact HK
    isplitl [H₁]; · iexact H₁
    isplitl [H₂]; · iexact H₂
    isplitl [HO]; · iexact HO
    isplitl [Ht₁]; · iexact Ht₁
    iexact Ht₂
  iintro HO Hc
  iapply Hk
  isplitl [HO]; · iexact HO
  isplitl [Hs]; · iexact Hs
  isplitl [Hc]; · unfold sentRes; iexact Hc
  iexact Hd

end Send

/-- What waiting on the cell of the peer at distance `r + 1` takes. -/
def waitRes (k : Fin 4) (s : Fin 2) (r : Fin 7) : sProp 𝕄 :=
  iprop(cred (tallyAt (xc c k s (pr c r)) () N) ∗ atPos ER (xc c k s (pr c r)) 0 ∅ 0)
/-- What it gives. -/
def gotRes (k : Fin 4) (s : Fin 2) (r : Fin 7) : sProp 𝕄 :=
  iprop(atPos ER (xc c k s (pr c r)) 1 ∅ 0 ∗ xpay m c k s (pr c r))

/-- Waiting on the cells of kind `k` and half `s`: the waits to come, and those that have ended. -/
def WaitSt (k : Fin 4) (s : Fin 2) (ds gs : List (Fin 7)) (l : List (GSem nD τ sig × ℕ)) : sProp 𝕄 :=
  iprop(owesE (F := F) c l ∗ seps ds (waitRes (F := F) c k s) ∗ seps gs (gotRes m c k s))

theorem step_await (kd : Fin 4) (s : Fin 2) {r : Fin 7} {ds gs : List (Fin 7)} {l : List (GSem nD τ sig × ℕ)}
    (hl : ∀ p ∈ l, p.1.1.2 = .tc ∧ (![0, 2, 0, 3] : Fin 4 → ℕ) kd < lv p.1 ())
    {oS : Fin 2 → Nat} {inbS : ∀ a, oS a + S1x1.size a ≤ S2x8.size a} (hS : oS = ![s.val, (pr c r).val])
    {b₁ b₂ : Memref sig .tc .vmem S2x8x64x1024 .bf16} {off₁ off₂ : Fin 4 → Nat} {inb₁ inb₂}
    {hr₁ : ∀ a, (unitR off₁ inb₁).stride a = 1} {hr₂ : ∀ a, (unitR off₂ inb₂).stride a = 1} {hw₁ hw₂}
    {α : Type} {Q : α → sProp 𝕄} {k : PUnit → Prog (TpuEff nD τ sig (Elt F) Λ₀ .tc) α} :
    know m K ⊢ iprop(WaitSt m c kd s (r :: ds) gs l
        -∗ (WaitSt m c kd s ds (r :: gs) l -∗ run c (k ⟨⟩) Q)
          -∗ run c (.op (.waitDma2 (((semA kd).slice (Rect.unit (s := S2x8) oS S1x1.size inbS)).squeeze S_ squeezes_S1x1_S_).sem
              (slotM b₁ (unitR off₁ inb₁) squeezes_S1x1x64x1024_S64x1024 hr₁) (slotM b₂ (unitR off₂ inb₂) squeezes_S1x1x64x1024_S64x1024 hr₂) hw₁ hw₂) k) Q) := by
  unfold know WaitSt
  rw [seps_cons, seps_cons, waitRes]
  iintro ⟨HK, Hlev⟩ ⟨HO, ⟨⟨Hc, Hat⟩, Hs⟩, Hd⟩ Hk
  iapply (step_wait m K c (pr_ne c r) (sem_eq kd hS) (fun p hp => by rw [lv_x]; exact hl p hp) (by exact slot_credit)) $$ [HK Hlev HO Hc Hat]
  · isplitl [HK]; · iexact HK
    isplitl [Hlev]; · iexact Hlev
    isplitl [HO]; · iexact HO
    isplitl [Hc]; · iexact Hc
    iexact Hat
  iintro HO Hat Hp
  iapply Hk
  isplitl [HO]; · iexact HO
  isplitl [Hs]; · iexact Hs
  isplitl [Hat Hp]
  · unfold gotRes
    isplitl [Hat]; · iexact Hat
    iexact Hp
  iexact Hd

theorem nil_below (kd : Fin 4) : ∀ p ∈ ([] : List (GSem nD τ sig × ℕ)), p.1.1.2 = .tc ∧ (![0, 2, 0, 3] : Fin 4 → ℕ) kd < lv p.1 () :=
  fun p hp => absurd hp List.not_mem_nil
theorem dueAg_below : ∀ p ∈ dueAg c, p.1.1.2 = .tc ∧ (![0, 2, 0, 3] : Fin 4 → ℕ) 1 < lv p.1 () :=
  fun p hp => ⟨(mem_dueAg hp).1, by rw [(mem_dueAg hp).2]; decide⟩
theorem agL_below : ∀ p ∈ agL c 1 all7 ++ [], p.1.1.2 = .tc ∧ (![0, 2, 0, 3] : Fin 4 → ℕ) 1 < lv p.1 () :=
  fun p hp => by rw [List.append_nil] at hp; exact ⟨(mem_agL hp).1, by rw [(mem_agL hp).2]; decide⟩

/-- A device's own part: read from the source slot, put into its landing slot. -/
def OwnSt (s : Fin 2) : sProp 𝕄 :=
  iprop(piece c srcM (slotR s c) fullShare (srcV m c s c) ∗ someP (F := F) c rsM (slotR s c))
def OwnDone (s : Fin 2) : sProp 𝕄 :=
  iprop(piece c srcM (slotR s c) fullShare (srcV m c s c) ∗ piece c rsM (slotR s c) fullShare (srcV m c s c))

theorem step_own (s : Fin 2) {off : Fin 4 → Nat} (h : off = ![s.val, c.val, 0, 0]) {inb : ∀ a, off a + S1x1x64x1024.size a ≤ S2x8x64x1024.size a}
    {g : Vec F S1x1x64x1024 .bf16 → Vec F S1x1x64x1024 .bf16} (hg : ∀ v, g v = v) {hl₁ hl₂}
    {hx : (rsM.access (unitR off inb)).Stores Finset.univ}
    {hm : (Finset.univ : Finset (unitR off inb).shape.Idx) = Finset.univ ∨ ∀ a, (unitR off inb).stride a = 1}
    {α : Type} {Q : α → sProp 𝕄} {k : PUnit → Prog (TpuEff nD τ sig (Elt F) Λ₀ .tc) α} :
    OwnSt m c s ⊢ iprop((OwnDone m c s -∗ run c (k ⟨⟩) Q)
      -∗ run c (.op (.load srcM (unitR off inb).toLoadRect hl₁) fun v => .op (.load rsM (unitR off inb).toLoadRect hl₂) fun _ =>
          .op (.store rsM (unitR off inb) (g v) Finset.univ hx hm) k) Q) := by
  unfold OwnSt OwnDone someP
  iintro ⟨H₁, ⟨%Y, H₂⟩⟩ Hk
  iapply (load_piece c h) $$ H₁
  iintro H₁
  iapply (load_piece c h) $$ H₂
  iintro H₂
  iapply (store_piece c h (hg _)) $$ H₂
  iintro H₂
  iapply Hk
  isplitl [H₁]; · iexact H₁
  iexact H₂

end Cert.KernelIdeal.Exch

end
-- ==== Proof.KernelIdeal.Parts1.lean ====
/-
The kernel's first parts: the signals, the product and its sixteen parts, the barrier, the first sends.
-/
module

public import proofs.«01_k».proof.Proof.KernelIdeal.Phases

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part of the kernel at the kernel's buffers and semaphores. -/
abbrev onBufs {β : Type 1}
    (p : (arg0 : Memref sig .tc .vmem S1024x512 .bf16) → arg0.IsWhole → (arg1 : Memref sig .tc .vmem S512x1024 .bf16) → arg1.IsWhole →
      (arg2 : Memref sig .tc .vmem S1024x1024 .f32) → arg2.IsWhole → (arg3 : Memref sig .tc .vmem S2x8x64x1024 .bf16) → arg3.IsWhole →
      (arg4 : Memref sig .tc .vmem S2x8x64x1024 .bf16) → arg4.IsWhole → (arg5 : Memref sig .tc .vmem S2x8x64x1024 .bf16) → arg5.IsWhole →
      DmaSems sig S2x8 → DmaSems sig S2x8 → DmaSems sig S2x8 → DmaSems sig S2x8 → β) : β :=
  p aM (Memref.isWhole_whole _) bM (Memref.isWhole_whole _) outM (Memref.isWhole_whole _) srcM (Memref.isWhole_whole _)
    rsM (Memref.isWhole_whole _) agM (Memref.isWhole_whole _) cc0_scratch3 cc0_scratch4 cc0_scratch5 cc0_scratch6

/-- Running a part and then the rest of the kernel. -/
abbrev runThen {α β : Type} (c : Dev nD) (p : Prog (TpuEff nD τ sig (Elt F) Λ₀ .tc) β) (k : β → Prog (TpuEff nD τ sig (Elt F) Λ₀ .tc) α)
    (Q : α → sProp 𝕄) : sProp 𝕄 := run c (p >>= k) Q

abbrev barA : Sems sig S_ := SemArray.scalar (sig.barrier 0 rfl)

variable (m : (ℓ : Loc nD τ sig) → Buf (Elt F) ℓ) (K : Dev nD × CI → ℕ) (c : Dev nD)

/-- The source slots of half `s`. -/
abbrev SrcSt (s : Fin 2) (js done : List (Dev nD)) : sProp 𝕄 :=
  FillSt c srcM (fun j => slotR s j) (fun j => srcV m c s j) js done

/-- The two staged arguments. -/
def ArgSt : sProp 𝕄 :=
  iprop(((aM.view.loc (c : Thread nD τ)) ↦{fullShare} (xA m c : Buf (Elt F) (aM.view.loc (c : Thread nD τ))))
    ∗ ((bM.view.loc (c : Thread nD τ)) ↦{fullShare} (xB m c : Buf (Elt F) (bM.view.loc (c : Thread nD τ)))))

theorem zeros2 : (![0, 0] : Fin 2 → Nat) = fun _ => 0 := funext fun a => by fin_cases a <;> rfl

theorem read_a : (aM : Memref sig .tc .vmem S1024x512 .bf16).view.readAt (Elt F)
    (Rect.unit (s := S1024x512) ![0, 0] S1024x512.size inb_S1024x512_S1024x512_0_0).toLoadRect (xA m c) = xA m c :=
  Memref.readAt_unit_zero (Elt F) cc0_stg0_0 zeros2 _ _
theorem read_b : (bM : Memref sig .tc .vmem S512x1024 .bf16).view.readAt (Elt F)
    (Rect.unit (s := S512x1024) ![0, 0] S512x1024.size inb_S512x1024_S512x1024_0_0).toLoadRect (xB m c) = xB m c :=
  Memref.readAt_unit_zero (Elt F) cc0_stg1_0 zeros2 _ _

/-- The barrier: what waiting on it takes, and what is left. -/
def BarSt (l : List (GSem nD τ sig × ℕ)) : sProp 𝕄 :=
  iprop(owesE (F := F) c l ∗ cred (tallyAt (barCell c) () 7) ∗ atPos ER (barCell c) 0 ∅ 0)
def BarDone (l : List (GSem nD τ sig × ℕ)) : sProp 𝕄 :=
  iprop(owesE (F := F) c l ∗ atPos ER (barCell c) 1 ∅ 0 ∗ bigSep Finset.univ fun r => land (F := F) (pr c r) c)

theorem step_bar {l : List (GSem nD τ sig × ℕ)} (hl : ∀ p ∈ l, p.1.1.2 = .tc ∧ 2 ≤ lv p.1 ())
    {α : Type} {Q : α → sProp 𝕄} {k : PUnit → Prog (TpuEff nD τ sig (Elt F) Λ₀ .tc) α} :
    know m K ⊢ iprop(BarSt (F := F) c l -∗ (BarDone (F := F) c l -∗ run c (k ⟨⟩) Q)
      -∗ run c (.op (.semWait barS ((7#32 : BitVec 32).toInt)) k) Q) := by
  unfold know BarSt BarDone
  iintro ⟨HK, Hlev⟩ ⟨HO, Hc, Hat⟩ Hk
  iapply (step_barrier m K c hl) $$ [HK Hlev HO Hc Hat]
  · isplitl [HK]; · iexact HK
    isplitl [Hlev]; · iexact Hlev
    isplitl [HO]; · iexact HO
    isplitl [Hc]; · iexact Hc
    iexact Hat
  iintro HO Hat Hl
  iapply Hk
  isplitl [HO]; · iexact HO
  isplitl [Hat]; · iexact Hat
  iexact Hl

/-- Part 1: five signals. -/
theorem part1 {α : Type} {rest : List (GSem nD τ sig × ℕ)} {k : (Σ' (d0 : Dev nD) (v2 : BitVec 32) (v3 : Sems sig S_) (v24 : BitVec 32), BitVec 32) → Prog (TpuEff nD τ sig (Elt F) Λ₀ .tc) α} {Q : α → sProp 𝕄} :
    know m K ⊢ iprop(SigSt (F := F) c [0, 1, 2, 3, 4, 5, 6] rest
      -∗ (∀ v w, SigSt (F := F) c [5, 6] rest -∗ run c (k ⟨c, v, barA, w, 8#32⟩) Q)
      -∗ runThen c ((onBufs (k0_part1 (F := F)))) k Q) := by
  simp only [onBufs, k0_part1_eq_skeleton]; unfold k0_part1_skel
  simp only [runThen, semSignalWord, semWaitWord, Prog.lift, Prog.bind_op, Prog.bind_ret, Prog.pure_eq_ret, wp_deviceId]
  iintro #HK H Hk
  iapply (step_sig m K c (r := 0) (by exact dev_eq 0 (k0_dev1_eq c))) $$ HK H; iintro H
  iapply (step_sig m K c (r := 1) (by exact dev_eq 1 (k0_dev2_eq c))) $$ HK H; iintro H
  iapply (step_sig m K c (r := 2) (by exact dev_eq 2 (k0_dev3_eq c))) $$ HK H; iintro H
  iapply (step_sig m K c (r := 3) (by exact dev_eq 3 (k0_dev4_eq c))) $$ HK H; iintro H
  iapply (step_sig m K c (r := 4) (by exact dev_eq 4 (k0_dev5_eq c))) $$ HK H; iintro H
  iapply Hk; iexact H

/-- Part 2: two signals, the loads of the arguments, three parts of the product. -/
theorem part2 {α : Type} {rest : List (GSem nD τ sig × ℕ)} {v w x : BitVec 32} {k : (Σ' (v36 : FVec F S1024x1024 .f32), FVec F S64x1024 .bf16) → Prog (TpuEff nD τ sig (Elt F) Λ₀ .tc) α} {Q : α → sProp 𝕄} :
    know m K ⊢ iprop(SigSt (F := F) c [5, 6] rest -∗ ArgSt m c -∗ SrcSt m c 0 [0, 1, 2, 3, 4, 5, 6, 7] []
      -∗ (SigSt (F := F) c [] rest -∗ ArgSt m c -∗ SrcSt m c 0 [3, 4, 5, 6, 7] [2, 1, 0] -∗ run c (k ⟨prod m c, k0_pay5 (F := F) (xA m c) (xB m c)⟩) Q)
      -∗ runThen c ((onBufs (k0_part2 (F := F))) c v barA w x) k Q) := by
  simp only [onBufs, k0_part2_eq_skeleton]; unfold k0_part2_skel
  simp only [runThen, semSignalWord, semWaitWord, Prog.lift, Prog.bind_op, Prog.bind_ret, Prog.pure_eq_ret, wp_deviceId]
  iintro #HK H HX HS Hk
  iapply (step_sig m K c (r := 5) (by exact dev_eq 5 (k0_dev6_eq c))) $$ HK H; iintro H
  iapply (step_sig m K c (r := 6) (by exact dev_eq 6 (k0_dev7_eq c))) $$ HK H; iintro H
  unfold ArgSt
  icases HX with ⟨Ha, Hb⟩
  iapply (wp_load 𝒱₀ (c : Thread nD τ) none Set.univ (m := aM) (Finset.subset_univ _)) $$ Ha; iintro Ha
  rw [read_a]
  iapply (wp_load 𝒱₀ (c : Thread nD τ) none Set.univ (m := bM) (Finset.subset_univ _)) $$ Hb; iintro Hb
  rw [read_b]
  iapply (step_put c (j := 0) (by rfl) (by rfl)) $$ HS; iintro HS
  iapply (step_put c (j := 1) (by rfl) (by rfl)) $$ HS; iintro HS
  iapply (step_put c (j := 2) (by rfl) (by rfl)) $$ HS; iintro HS
  iapply Hk $$ H [Ha Hb] HS
  isplitl [Ha]; · iexact Ha
  iexact Hb

/-- Part 3: the parts of half 0 from the fourth on, and the first of half 1. -/
theorem part3 {α : Type} {k : (FVec F S64x1024 .bf16) → Prog (TpuEff nD τ sig (Elt F) Λ₀ .tc) α} {Q : α → sProp 𝕄} :
    iprop(SrcSt m c 0 [3, 4, 5, 6, 7] [2, 1, 0] ∗ SrcSt m c 1 [0, 1, 2, 3, 4, 5, 6, 7] []) ⊢ iprop((SrcSt m c 0 [] [7, 6, 5, 4, 3, 2, 1, 0] -∗ SrcSt m c 1 [1, 2, 3, 4, 5, 6, 7] [0] -∗ run c (k (k0_pay12 (F := F) (prod m c))) Q)
      -∗ runThen c ((onBufs (k0_part3 (F := F))) (prod m c) (k0_pay5 (F := F) (xA m c) (xB m c))) k Q) := by
  simp only [onBufs, k0_part3_eq_skeleton]; unfold k0_part3_skel
  simp only [runThen, semSignalWord, semWaitWord, Prog.lift, Prog.bind_op, Prog.bind_ret, Prog.pure_eq_ret, wp_deviceId]
  iintro ⟨H, H'⟩ Hk
  iapply (step_put c (j := 3) (by rfl) (by rfl)) $$ H; iintro H
  iapply (step_put c (j := 4) (by rfl) (by rfl)) $$ H; iintro H
  iapply (step_put c (j := 5) (by rfl) (by rfl)) $$ H; iintro H
  iapply (step_put c (j := 6) (by rfl) (by rfl)) $$ H; iintro H
  iapply (step_put c (j := 7) (by rfl) (by rfl)) $$ H; iintro H
  iapply (step_put c (j := 0) (by rfl) (by rfl)) $$ H'; iintro H'
  iapply Hk $$ H H'

/-- Part 4: six parts of half 1. -/
theorem part4 {α : Type} {k : (FVec F S64x1024 .bf16) → Prog (TpuEff nD τ sig (Elt F) Λ₀ .tc) α} {Q : α → sProp 𝕄} :
    SrcSt m c 1 [1, 2, 3, 4, 5, 6, 7] [0] ⊢ iprop((SrcSt m c 1 [7] [6, 5, 4, 3, 2, 1, 0] -∗ run c (k (k0_pay19 (F := F) (prod m c))) Q)
      -∗ runThen c ((onBufs (k0_part4 (F := F))) (prod m c) (k0_pay12 (F := F) (prod m c))) k Q) := by
  simp only [onBufs, k0_part4_eq_skeleton]; unfold k0_part4_skel
  simp only [runThen, semSignalWord, semWaitWord, Prog.lift, Prog.bind_op, Prog.bind_ret, Prog.pure_eq_ret, wp_deviceId]
  iintro H Hk
  iapply (step_put c (j := 1) (by rfl) (by rfl)) $$ H; iintro H
  iapply (step_put c (j := 2) (by rfl) (by rfl)) $$ H; iintro H
  iapply (step_put c (j := 3) (by rfl) (by rfl)) $$ H; iintro H
  iapply (step_put c (j := 4) (by rfl) (by rfl)) $$ H; iintro H
  iapply (step_put c (j := 5) (by rfl) (by rfl)) $$ H; iintro H
  iapply (step_put c (j := 6) (by rfl) (by rfl)) $$ H; iintro H
  iapply Hk; iexact H

/-- Part 5: the last part of half 1, the barrier, two sends. -/
theorem part5 {α : Type} {l : List (GSem nD τ sig × ℕ)} (hl : ∀ p ∈ l, p.1.1.2 = .tc ∧ 2 ≤ lv p.1 ()) {rest : List (GSem nD τ sig × ℕ)} {v : BitVec 32} {Z : sProp 𝕄} {k : (PUnit) → Prog (TpuEff nD τ sig (Elt F) Λ₀ .tc) α} {Q : α → sProp 𝕄} :
    know m K ⊢ iprop(SrcSt m c 1 [7] [6, 5, 4, 3, 2, 1, 0] -∗ BarSt (F := F) c l -∗ (SrcSt m c 1 [] [7, 6, 5, 4, 3, 2, 1, 0] -∗ BarDone (F := F) c l -∗ RsSt m c 0 [0, 1, 2, 3, 4, 5, 6] [] rest ∗ Z)
      -∗ (RsSt m c 0 [2, 3, 4, 5, 6] [1, 0] rest -∗ Z -∗ run c (k ⟨⟩) Q)
      -∗ runThen c ((onBufs (k0_part5 (F := F))) c v barA (k0_pay19 (F := F) (prod m c))) k Q) := by
  simp only [onBufs, k0_part5_eq_skeleton]; unfold k0_part5_skel
  simp only [runThen, semSignalWord, semWaitWord, Prog.lift, Prog.bind_op, Prog.bind_ret, Prog.pure_eq_ret, wp_deviceId]
  iintro #HK HS HB HW Hk
  iapply (step_put c (j := 7) (by rfl) (by rfl)) $$ HS; iintro HS
  iapply (step_bar m K c hl) $$ HK HB; iintro HB
  ihave HZ := HW $$ HS HB
  icases HZ with ⟨H, HZ⟩
  iapply (step_rs m K c 0 (r := 0) (by exact dev_eq 0 (k0_dev8_eq c)) (off4' c 0) (off3' c) (off1' c 0) (off2' c)) $$ HK H; iintro H
  iapply (step_rs m K c 0 (r := 1) (by exact dev_eq 1 (k0_dev9_eq c)) (off4' c 1) (off3' c) (off1' c 1) (off2' c)) $$ HK H; iintro H
  iapply Hk $$ H HZ

end Cert.KernelIdeal.Exch

end
-- ==== Proof.KernelIdeal.Parts3.lean ====
/-
The parts that land, their sums, the activation, and the sends of the finished rows.
-/
module

public import proofs.«01_k».proof.Proof.KernelIdeal.Parts1

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- The positions at the cells of kind `k` and half `s`, once their round is over. -/
def DoneAt (k : Fin 4) (s : Fin 2) : sProp 𝕄 := bigSep Finset.univ fun r : Fin 7 => atPos ER (xc c k s (pr c r)) 1 ∅ 0

/-- The eight parts of half `s`. -/
def RsAll (s : Fin 2) : sProp 𝕄 := bigSep Finset.univ fun i => piece c rsM (slotR s i) fullShare (srcV m i s c)

/-- A device's own finished rows of half `s`: the slot, empty, and filled. -/
abbrev FinSt (s : Fin 2) (js done : List (Dev nD)) : sProp 𝕄 :=
  FillSt c agM (fun j => slotR s j) (fun j => agV m j s) js done

/-- What the seven waits of a kind and half gave: the positions, and the payloads. -/
theorem got_all (k : Fin 4) (s : Fin 2) :
    seps [6, 5, 4, 3, 2, 1, 0] (gotRes m c k s) ⊢ iprop(DoneAt (F := F) c k s ∗ bigSep Finset.univ fun r : Fin 7 => xpay m c k s (pr c r)) := by
  rw [seps_univ _ _ (by decide) (by decide)]
  unfold gotRes DoneAt
  exact Entails.of_eq (bigSep_sep _ _ _)

/-- The seven parts that landed and the device's own. -/
theorem rs_landed (s : Fin 2) {l : List (GSem nD τ sig × ℕ)} :
    iprop(WaitSt m c 1 s [] [6, 5, 4, 3, 2, 1, 0] l ∗ piece c rsM (slotR s c) fullShare (srcV m c s c))
      ⊢ iprop(owesE (F := F) c l ∗ DoneAt (F := F) c 1 s ∗ RsAll m c s) := by
  unfold WaitSt RsAll
  rw [peers_eq c]
  iintro ⟨⟨HO, -, Hg⟩, Hp⟩
  ihave Hg := (got_all m c 1 s) $$ Hg
  icases Hg with ⟨Hd, Hx⟩
  isplitl [HO]; · iexact HO
  isplitl [Hd]; · iexact Hd
  isplitl [Hp]; · iexact Hp
  iexact Hx

/-- From the sends of the finished rows of half 0 to the waits for the parts of half 1. -/
theorem ag_wait {es : List (Fin 7)} {rest : List (GSem nD τ sig × ℕ)} :
    iprop(AgSt m c 0 [] es rest ∗ seps all7 (waitRes (F := F) c 1 1)) ⊢ iprop(WaitSt m c 1 1 all7 [] rest ∗ seps es (sentRes (F := F) c 2 0)) := by
  unfold AgSt WaitSt
  iintro ⟨⟨HO, -, He⟩, Hr⟩
  isplitr [He]
  · isplitl [HO]; · iexact HO
    isplitl [Hr]; · iexact Hr
    iempintro
  iexact He

/-- Part 12: three waits. -/
theorem part12 {α : Type} {v x y : BitVec 32} {k : (PUnit) → Prog (TpuEff nD τ sig (Elt F) Λ₀ .tc) α} {Q : α → sProp 𝕄} :
    know m K ⊢ iprop(WaitSt m c 1 0 [1, 2, 3, 4, 5, 6] [0] (dueAg c)
      -∗ (WaitSt m c 1 0 [4, 5, 6] [3, 2, 1, 0] (dueAg c) -∗ run c (k ⟨⟩) Q)
      -∗ runThen c ((onBufs (k0_part12 (F := F))) c v x y) k Q) := by
  simp only [onBufs, k0_part12_eq_skeleton]; unfold k0_part12_skel
  simp only [runThen, semSignalWord, semWaitWord, Prog.lift, Prog.bind_op, Prog.bind_ret, Prog.pure_eq_ret, wp_deviceId]
  iintro #HK H Hk
  iapply (step_await m K c 1 0 (r := 1) (dueAg_below c) (off1' c 1)) $$ HK H; iintro H
  iapply (step_await m K c 1 0 (r := 2) (dueAg_below c) (off1' c 2)) $$ HK H; iintro H
  iapply (step_await m K c 1 0 (r := 3) (dueAg_below c) (off1' c 3)) $$ HK H; iintro H
  iapply Hk; iexact H

/-- Part 13: two waits. -/
theorem part13 {α : Type} {v : BitVec 32} {k : (PUnit) → Prog (TpuEff nD τ sig (Elt F) Λ₀ .tc) α} {Q : α → sProp 𝕄} :
    know m K ⊢ iprop(WaitSt m c 1 0 [4, 5, 6] [3, 2, 1, 0] (dueAg c)
      -∗ (WaitSt m c 1 0 [6] [5, 4, 3, 2, 1, 0] (dueAg c) -∗ run c (k ⟨⟩) Q)
      -∗ runThen c ((onBufs (k0_part13 (F := F))) c v) k Q) := by
  simp only [onBufs, k0_part13_eq_skeleton]; unfold k0_part13_skel
  simp only [runThen, semSignalWord, semWaitWord, Prog.lift, Prog.bind_op, Prog.bind_ret, Prog.pure_eq_ret, wp_deviceId]
  iintro #HK H Hk
  iapply (step_await m K c 1 0 (r := 4) (dueAg_below c) (off1' c 4)) $$ HK H; iintro H
  iapply (step_await m K c 1 0 (r := 5) (dueAg_below c) (off1' c 5)) $$ HK H; iintro H
  iapply Hk; iexact H

/-- Part 14: the last wait for half 0, and six of the eight parts. -/
theorem part14 {α : Type} {k : (FVec F S64x1024 .f32) → Prog (TpuEff nD τ sig (Elt F) Λ₀ .tc) α} {Q : α → sProp 𝕄} :
    know m K ⊢ iprop(WaitSt m c 1 0 [6] [5, 4, 3, 2, 1, 0] (dueAg c) -∗ piece c rsM (slotR 0 c) fullShare (srcV m c 0 c)
      -∗ (owesE (F := F) c (dueAg c) -∗ DoneAt (F := F) c 1 0 -∗ RsAll m c 0 -∗ run c (k (k0_pay23 (F := F) (srcV m 0 0 c) (srcV m 1 0 c) (srcV m 2 0 c) (srcV m 3 0 c) (srcV m 4 0 c) (srcV m 5 0 c))) Q)
      -∗ runThen c ((onBufs (k0_part14 (F := F))) c) k Q) := by
  simp only [onBufs, k0_part14_eq_skeleton]; unfold k0_part14_skel
  simp only [runThen, semSignalWord, semWaitWord, Prog.lift, Prog.bind_op, Prog.bind_ret, Prog.pure_eq_ret, wp_deviceId]
  iintro #HK H HV Hk
  iapply (step_await m K c 1 0 (r := 6) (dueAg_below c) (off1' c 6)) $$ HK H; iintro H
  ihave H' := (rs_landed m c 0) $$ [H HV]
  · isplitl [H]; · iexact H
    iexact HV
  icases H' with ⟨HO, Hd, HR⟩
  unfold RsAll
  iapply (step_get c (j := 0) (fun _ => fullShare) (by rfl)) $$ HR; iintro HR
  iapply (step_get c (j := 1) (fun _ => fullShare) (by rfl)) $$ HR; iintro HR
  iapply (step_get c (j := 2) (fun _ => fullShare) (by rfl)) $$ HR; iintro HR
  iapply (step_get c (j := 3) (fun _ => fullShare) (by rfl)) $$ HR; iintro HR
  iapply (step_get c (j := 4) (fun _ => fullShare) (by rfl)) $$ HR; iintro HR
  iapply (step_get c (j := 5) (fun _ => fullShare) (by rfl)) $$ HR; iintro HR
  iapply Hk $$ HO Hd HR

/-- Part 15: the other two parts, and the finished rows of half 0. -/
theorem part15 {α : Type} {v : BitVec 32} {k : (PUnit) → Prog (TpuEff nD τ sig (Elt F) Λ₀ .tc) α} {Q : α → sProp 𝕄} :
    iprop(RsAll m c 0 ∗ FinSt m c 0 [c] []) ⊢ iprop((RsAll m c 0 -∗ FinSt m c 0 [] [c] -∗ run c (k ⟨⟩) Q)
      -∗ runThen c ((onBufs (k0_part15 (F := F))) c v (k0_pay23 (F := F) (srcV m 0 0 c) (srcV m 1 0 c) (srcV m 2 0 c) (srcV m 3 0 c) (srcV m 4 0 c) (srcV m 5 0 c))) k Q) := by
  simp only [onBufs, k0_part15_eq_skeleton]; unfold k0_part15_skel
  simp only [runThen, semSignalWord, semWaitWord, Prog.lift, Prog.bind_op, Prog.bind_ret, Prog.pure_eq_ret, wp_deviceId]
  iintro ⟨HR, H⟩ Hk
  unfold RsAll
  iapply (step_get c (j := 6) (fun _ => fullShare) (by rfl)) $$ HR; iintro HR
  iapply (step_get c (j := 7) (fun _ => fullShare) (by rfl)) $$ HR; iintro HR
  iapply (step_put c (j := c) (off5' c) (by rfl)) $$ H; iintro H
  iapply Hk $$ HR H

/-- Part 16: three sends. -/
theorem part16 {α : Type} {rest : List (GSem nD τ sig × ℕ)} {v : BitVec 32} {k : (BitVec 32) → Prog (TpuEff nD τ sig (Elt F) Λ₀ .tc) α} {Q : α → sProp 𝕄} :
    know m K ⊢ iprop(AgSt m c 0 [0, 1, 2, 3, 4, 5, 6] [] rest
      -∗ (∀ w, AgSt m c 0 [3, 4, 5, 6] [2, 1, 0] rest -∗ run c (k w) Q)
      -∗ runThen c ((onBufs (k0_part16 (F := F))) c v) k Q) := by
  simp only [onBufs, k0_part16_eq_skeleton]; unfold k0_part16_skel
  simp only [runThen, semSignalWord, semWaitWord, Prog.lift, Prog.bind_op, Prog.bind_ret, Prog.pure_eq_ret, wp_deviceId]
  iintro #HK H Hk
  iapply (step_ag m K c 0 (r := 0) (by exact dev_eq 0 (k0_dev22_eq c)) (off3' c) (off3' c) (off1' c 0) (off2' c)) $$ HK H; iintro H
  iapply (step_ag m K c 0 (r := 1) (by exact dev_eq 1 (k0_dev23_eq c)) (off3' c) (off3' c) (off1' c 1) (off2' c)) $$ HK H; iintro H
  iapply (step_ag m K c 0 (r := 2) (by exact dev_eq 2 (k0_dev24_eq c)) (off3' c) (off3' c) (off1' c 2) (off2' c)) $$ HK H; iintro H
  iapply Hk; iexact H

/-- Part 17: two sends. -/
theorem part17 {α : Type} {rest : List (GSem nD τ sig × ℕ)} {v x : BitVec 32} {k : (PUnit) → Prog (TpuEff nD τ sig (Elt F) Λ₀ .tc) α} {Q : α → sProp 𝕄} :
    know m K ⊢ iprop(AgSt m c 0 [3, 4, 5, 6] [2, 1, 0] rest
      -∗ (AgSt m c 0 [5, 6] [4, 3, 2, 1, 0] rest -∗ run c (k ⟨⟩) Q)
      -∗ runThen c ((onBufs (k0_part17 (F := F))) c v x) k Q) := by
  simp only [onBufs, k0_part17_eq_skeleton]; unfold k0_part17_skel
  simp only [runThen, semSignalWord, semWaitWord, Prog.lift, Prog.bind_op, Prog.bind_ret, Prog.pure_eq_ret, wp_deviceId]
  iintro #HK H Hk
  iapply (step_ag m K c 0 (r := 3) (by exact dev_eq 3 (k0_dev25_eq c)) (off3' c) (off3' c) (off1' c 3) (off2' c)) $$ HK H; iintro H
  iapply (step_ag m K c 0 (r := 4) (by exact dev_eq 4 (k0_dev26_eq c)) (off3' c) (off3' c) (off1' c 4) (off2' c)) $$ HK H; iintro H
  iapply Hk; iexact H

/-- Part 18: the last two sends of half 0, and the first wait for the parts of half 1. -/
theorem part18 {α : Type} {v : BitVec 32} {k : (BitVec 32) → Prog (TpuEff nD τ sig (Elt F) Λ₀ .tc) α} {Q : α → sProp 𝕄} :
    know m K ⊢ iprop(AgSt m c 0 [5, 6] [4, 3, 2, 1, 0] (agL c 1 all7 ++ []) -∗ seps all7 (waitRes (F := F) c 1 1)
      -∗ (∀ w, WaitSt m c 1 1 [1, 2, 3, 4, 5, 6] [0] (agL c 1 all7 ++ []) -∗ seps [6, 5, 4, 3, 2, 1, 0] (sentRes (F := F) c 2 0) -∗ run c (k w) Q)
      -∗ runThen c ((onBufs (k0_part18 (F := F))) c v) k Q) := by
  simp only [onBufs, k0_part18_eq_skeleton]; unfold k0_part18_skel
  simp only [runThen, semSignalWord, semWaitWord, Prog.lift, Prog.bind_op, Prog.bind_ret, Prog.pure_eq_ret, wp_deviceId]
  iintro #HK H HR Hk
  iapply (step_ag m K c 0 (r := 5) (by exact dev_eq 5 (k0_dev27_eq c)) (off3' c) (off3' c) (off1' c 5) (off2' c)) $$ HK H; iintro H
  iapply (step_ag m K c 0 (r := 6) (by exact dev_eq 6 (k0_dev28_eq c)) (off3' c) (off3' c) (off1' c 6) (off2' c)) $$ HK H; iintro H
  ihave H' := (ag_wait m c) $$ [H HR]
  · isplitl [H]; · iexact H
    iexact HR
  icases H' with ⟨H, He⟩
  iapply (step_await m K c 1 1 (r := 0) (agL_below c) (off6' c 0)) $$ HK H; iintro H
  iapply Hk $$ H He

/-- Part 19: two waits. -/
theorem part19 {α : Type} {v x : BitVec 32} {k : (PUnit) → Prog (TpuEff nD τ sig (Elt F) Λ₀ .tc) α} {Q : α → sProp 𝕄} :
    know m K ⊢ iprop(WaitSt m c 1 1 [1, 2, 3, 4, 5, 6] [0] (agL c 1 all7 ++ [])
      -∗ (WaitSt m c 1 1 [3, 4, 5, 6] [2, 1, 0] (agL c 1 all7 ++ []) -∗ run c (k ⟨⟩) Q)
      -∗ runThen c ((onBufs (k0_part19 (F := F))) c v x) k Q) := by
  simp only [onBufs, k0_part19_eq_skeleton]; unfold k0_part19_skel
  simp only [runThen, semSignalWord, semWaitWord, Prog.lift, Prog.bind_op, Prog.bind_ret, Prog.pure_eq_ret, wp_deviceId]
  iintro #HK H Hk
  iapply (step_await m K c 1 1 (r := 1) (agL_below c) (off6' c 1)) $$ HK H; iintro H
  iapply (step_await m K c 1 1 (r := 2) (agL_below c) (off6' c 2)) $$ HK H; iintro H
  iapply Hk; iexact H

/-- Part 20: three waits. -/
theorem part20 {α : Type} {v : BitVec 32} {k : (Σ' (v563 : BitVec 32), BitVec 32) → Prog (TpuEff nD τ sig (Elt F) Λ₀ .tc) α} {Q : α → sProp 𝕄} :
    know m K ⊢ iprop(WaitSt m c 1 1 [3, 4, 5, 6] [2, 1, 0] (agL c 1 all7 ++ [])
      -∗ (∀ w, WaitSt m c 1 1 [6] [5, 4, 3, 2, 1, 0] (agL c 1 all7 ++ []) -∗ run c (k ⟨w, 1#32⟩) Q)
      -∗ runThen c ((onBufs (k0_part20 (F := F))) c v) k Q) := by
  simp only [onBufs, k0_part20_eq_skeleton]; unfold k0_part20_skel
  simp only [runThen, semSignalWord, semWaitWord, Prog.lift, Prog.bind_op, Prog.bind_ret, Prog.pure_eq_ret, wp_deviceId]
  iintro #HK H Hk
  iapply (step_await m K c 1 1 (r := 3) (agL_below c) (off6' c 3)) $$ HK H; iintro H
  iapply (step_await m K c 1 1 (r := 4) (agL_below c) (off6' c 4)) $$ HK H; iintro H
  iapply (step_await m K c 1 1 (r := 5) (agL_below c) (off6' c 5)) $$ HK H; iintro H
  iapply Hk; iexact H

/-- Part 21: the last wait for half 1, and six of the eight parts. -/
theorem part21 {α : Type} {v x : BitVec 32} {k : (Σ' (v590 : FVec F S64x1024 .f32), FVec F S64x1024 .f32) → Prog (TpuEff nD τ sig (Elt F) Λ₀ .tc) α} {Q : α → sProp 𝕄} :
    know m K ⊢ iprop(WaitSt m c 1 1 [6] [5, 4, 3, 2, 1, 0] (agL c 1 all7 ++ []) -∗ piece c rsM (slotR 1 c) fullShare (srcV m c 1 c)
      -∗ (owesE (F := F) c (agL c 1 all7 ++ []) -∗ DoneAt (F := F) c 1 1 -∗ RsAll m c 1 -∗ run c (k ⟨k0_pay25 (F := F) (srcV m 0 1 c) (srcV m 1 1 c) (srcV m 2 1 c) (srcV m 3 1 c) (srcV m 4 1 c), k0_pay26 (F := F) (srcV m 5 1 c)⟩) Q)
      -∗ runThen c ((onBufs (k0_part21 (F := F))) c v x) k Q) := by
  simp only [onBufs, k0_part21_eq_skeleton]; unfold k0_part21_skel
  simp only [runThen, semSignalWord, semWaitWord, Prog.lift, Prog.bind_op, Prog.bind_ret, Prog.pure_eq_ret, wp_deviceId]
  iintro #HK H HV Hk
  iapply (step_await m K c 1 1 (r := 6) (agL_below c) (off6' c 6)) $$ HK H; iintro H
  ihave H' := (rs_landed m c 1) $$ [H HV]
  · isplitl [H]; · iexact H
    iexact HV
  icases H' with ⟨HO, Hd, HR⟩
  unfold RsAll
  iapply (step_get c (j := 0) (fun _ => fullShare) (by rfl)) $$ HR; iintro HR
  iapply (step_get c (j := 1) (fun _ => fullShare) (by rfl)) $$ HR; iintro HR
  iapply (step_get c (j := 2) (fun _ => fullShare) (by rfl)) $$ HR; iintro HR
  iapply (step_get c (j := 3) (fun _ => fullShare) (by rfl)) $$ HR; iintro HR
  iapply (step_get c (j := 4) (fun _ => fullShare) (by rfl)) $$ HR; iintro HR
  iapply (step_get c (j := 5) (fun _ => fullShare) (by rfl)) $$ HR; iintro HR
  iapply Hk $$ HO Hd HR

/-- Part 22: the other two parts, and the finished rows of half 1. -/
theorem part22 {α : Type} {v : BitVec 32} {k : (PUnit) → Prog (TpuEff nD τ sig (Elt F) Λ₀ .tc) α} {Q : α → sProp 𝕄} :
    iprop(RsAll m c 1 ∗ FinSt m c 1 [c] []) ⊢ iprop((RsAll m c 1 -∗ FinSt m c 1 [] [c] -∗ run c (k ⟨⟩) Q)
      -∗ runThen c ((onBufs (k0_part22 (F := F))) c v (k0_pay25 (F := F) (srcV m 0 1 c) (srcV m 1 1 c) (srcV m 2 1 c) (srcV m 3 1 c) (srcV m 4 1 c)) (k0_pay26 (F := F) (srcV m 5 1 c))) k Q) := by
  simp only [onBufs, k0_part22_eq_skeleton]; unfold k0_part22_skel
  simp only [runThen, semSignalWord, semWaitWord, Prog.lift, Prog.bind_op, Prog.bind_ret, Prog.pure_eq_ret, wp_deviceId]
  iintro ⟨HR, H⟩ Hk
  unfold RsAll
  iapply (step_get c (j := 6) (fun _ => fullShare) (by rfl)) $$ HR; iintro HR
  iapply (step_get c (j := 7) (fun _ => fullShare) (by rfl)) $$ HR; iintro HR
  iapply (step_put c (j := c) (off10' c) (by rfl)) $$ H; iintro H
  iapply Hk $$ HR H

/-- Part 23: three sends. -/
theorem part23 {α : Type} {rest : List (GSem nD τ sig × ℕ)} {v : BitVec 32} {k : (BitVec 32) → Prog (TpuEff nD τ sig (Elt F) Λ₀ .tc) α} {Q : α → sProp 𝕄} :
    know m K ⊢ iprop(AgSt m c 1 [0, 1, 2, 3, 4, 5, 6] [] rest
      -∗ (∀ w, AgSt m c 1 [3, 4, 5, 6] [2, 1, 0] rest -∗ run c (k w) Q)
      -∗ runThen c ((onBufs (k0_part23 (F := F))) c v) k Q) := by
  simp only [onBufs, k0_part23_eq_skeleton]; unfold k0_part23_skel
  simp only [runThen, semSignalWord, semWaitWord, Prog.lift, Prog.bind_op, Prog.bind_ret, Prog.pure_eq_ret, wp_deviceId]
  iintro #HK H Hk
  iapply (step_ag m K c 1 (r := 0) (by exact dev_eq 0 (k0_dev29_eq c)) (off8' c) (off8' c) (off6' c 0) (off7' c)) $$ HK H; iintro H
  iapply (step_ag m K c 1 (r := 1) (by exact dev_eq 1 (k0_dev30_eq c)) (off8' c) (off8' c) (off6' c 1) (off7' c)) $$ HK H; iintro H
  iapply (step_ag m K c 1 (r := 2) (by exact dev_eq 2 (k0_dev31_eq c)) (off8' c) (off8' c) (off6' c 2) (off7' c)) $$ HK H; iintro H
  iapply Hk; iexact H

/-- Part 24: two sends. -/
theorem part24 {α : Type} {rest : List (GSem nD τ sig × ℕ)} {v x : BitVec 32} {k : (PUnit) → Prog (TpuEff nD τ sig (Elt F) Λ₀ .tc) α} {Q : α → sProp 𝕄} :
    know m K ⊢ iprop(AgSt m c 1 [3, 4, 5, 6] [2, 1, 0] rest
      -∗ (AgSt m c 1 [5, 6] [4, 3, 2, 1, 0] rest -∗ run c (k ⟨⟩) Q)
      -∗ runThen c ((onBufs (k0_part24 (F := F))) c v x) k Q) := by
  simp only [onBufs, k0_part24_eq_skeleton]; unfold k0_part24_skel
  simp only [runThen, semSignalWord, semWaitWord, Prog.lift, Prog.bind_op, Prog.bind_ret, Prog.pure_eq_ret, wp_deviceId]
  iintro #HK H Hk
  iapply (step_ag m K c 1 (r := 3) (by exact dev_eq 3 (k0_dev32_eq c)) (off8' c) (off8' c) (off6' c 3) (off7' c)) $$ HK H; iintro H
  iapply (step_ag m K c 1 (r := 4) (by exact dev_eq 4 (k0_dev33_eq c)) (off8' c) (off8' c) (off6' c 4) (off7' c)) $$ HK H; iintro H
  iapply Hk; iexact H

/-- Part 25: two sends. -/
theorem part25 {α : Type} {rest : List (GSem nD τ sig × ℕ)} {v : BitVec 32} {k : (PUnit) → Prog (TpuEff nD τ sig (Elt F) Λ₀ .tc) α} {Q : α → sProp 𝕄} :
    know m K ⊢ iprop(AgSt m c 1 [5, 6] [4, 3, 2, 1, 0] rest
      -∗ (AgSt m c 1 [] [6, 5, 4, 3, 2, 1, 0] rest -∗ run c (k ⟨⟩) Q)
      -∗ runThen c ((onBufs (k0_part25 (F := F))) c v) k Q) := by
  simp only [onBufs, k0_part25_eq_skeleton]; unfold k0_part25_skel
  simp only [runThen, semSignalWord, semWaitWord, Prog.lift, Prog.bind_op, Prog.bind_ret, Prog.pure_eq_ret, wp_deviceId]
  iintro #HK H Hk
  iapply (step_ag m K c 1 (r := 5) (by exact dev_eq 5 (k0_dev34_eq c)) (off8' c) (off8' c) (off6' c 5) (off7' c)) $$ HK H; iintro H
  iapply (step_ag m K c 1 (r := 6) (by exact dev_eq 6 (k0_dev35_eq c)) (off8' c) (off8' c) (off6' c 6) (off7' c)) $$ HK H; iintro H
  iapply Hk; iexact H

end Cert.KernelIdeal.Exch

end
-- ==== Proof.KernelIdeal.Parts4.lean ====
/-
The finished rows that land, the result, and the waits for the copies to have left.
-/
module

public import proofs.«01_k».proof.Proof.KernelIdeal.Parts3

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- The share at which a device reads finished rows: of its own slot what it lent to itself, of a peer's all. -/
def ownShare (i : Dev nD) : PosShare TreeShare := if i = c then lent c else fullShare

/-- The finished rows of half `s` of all devices. -/
def AgAll (s : Fin 2) : sProp 𝕄 := bigSep Finset.univ fun i => piece c agM (slotR s i) (ownShare c i) (agV m i s)

/-- The rows of the result of half `s`. -/
abbrev OutSt (s : Fin 2) (js done : List (Dev nD)) : sProp 𝕄 :=
  FillSt c outM (fun j => rowR s j) (fun j => outV m j s) js done

theorem AgAll_eq (s : Fin 2) : AgAll m c s
    = iprop(piece c agM (slotR s c) (lent c) (agV m c s) ∗ bigSep Finset.univ fun r : Fin 7 => xpay m c 3 s (pr c r)) := by
  unfold AgAll
  rw [peers_eq c, ownShare, if_pos rfl]
  have e : (bigSep Finset.univ fun r : Fin 7 => piece c agM (slotR s (pr c r)) (ownShare c (pr c r)) (agV m (pr c r) s))
      = bigSep Finset.univ fun r : Fin 7 => xpay m c 3 s (pr c r) :=
    bigSep_congr fun r _ => by rw [ownShare, if_neg (pr_ne c r)]; rfl
  rw [e]

/-- The rows that landed and the device's own. -/
theorem ag_landed (s : Fin 2) {l : List (GSem nD τ sig × ℕ)} :
    iprop(WaitSt m c 3 s [] [6, 5, 4, 3, 2, 1, 0] l ∗ piece c agM (slotR s c) (lent c) (agV m c s))
      ⊢ iprop(owesE (F := F) c l ∗ DoneAt (F := F) c 3 s ∗ AgAll m c s) := by
  rw [AgAll_eq]
  unfold WaitSt
  iintro ⟨⟨HO, -, Hg⟩, Hp⟩
  ihave Hg := (got_all m c 3 s) $$ Hg
  icases Hg with ⟨Hd, Hx⟩
  isplitl [HO]; · iexact HO
  isplitl [Hd]; · iexact Hd
  isplitl [Hp]; · iexact Hp
  iexact Hx

/-- From the waits of one kind and half, all over, to those of another. -/
theorem wait_turn (k k' : Fin 4) (s s' : Fin 2) {l : List (GSem nD τ sig × ℕ)} :
    iprop(WaitSt m c k s [] [6, 5, 4, 3, 2, 1, 0] l ∗ seps all7 (waitRes (F := F) c k' s'))
      ⊢ iprop(WaitSt m c k' s' all7 [] l ∗ DoneAt (F := F) c k s ∗ bigSep Finset.univ fun r : Fin 7 => xpay m c k s (pr c r)) := by
  unfold WaitSt
  iintro ⟨⟨HO, -, Hg⟩, Hr⟩
  ihave Hg := (got_all m c k s) $$ Hg
  isplitr [Hg]
  · isplitl [HO]; · iexact HO
    isplitl [Hr]; · iexact Hr
    iempintro
  iexact Hg

/-- Part 26: three waits. -/
theorem part26 {α : Type} {v : BitVec 32} {k : (PUnit) → Prog (TpuEff nD τ sig (Elt F) Λ₀ .tc) α} {Q : α → sProp 𝕄} :
    know m K ⊢ iprop(WaitSt m c 3 0 [0, 1, 2, 3, 4, 5, 6] [] []
      -∗ (WaitSt m c 3 0 [3, 4, 5, 6] [2, 1, 0] [] -∗ run c (k ⟨⟩) Q)
      -∗ runThen c ((onBufs (k0_part26 (F := F))) c v) k Q) := by
  simp only [onBufs, k0_part26_eq_skeleton]; unfold k0_part26_skel
  simp only [runThen, semSignalWord, semWaitWord, Prog.lift, Prog.bind_op, Prog.bind_ret, Prog.pure_eq_ret, wp_deviceId]
  iintro #HK H Hk
  iapply (step_await m K c 3 0 (r := 0) (nil_below _) (off1' c 0)) $$ HK H; iintro H
  iapply (step_await m K c 3 0 (r := 1) (nil_below _) (off1' c 1)) $$ HK H; iintro H
  iapply (step_await m K c 3 0 (r := 2) (nil_below _) (off1' c 2)) $$ HK H; iintro H
  iapply Hk; iexact H

/-- Part 27: three waits. -/
theorem part27 {α : Type} {v : BitVec 32} {k : (BitVec 32) → Prog (TpuEff nD τ sig (Elt F) Λ₀ .tc) α} {Q : α → sProp 𝕄} :
    know m K ⊢ iprop(WaitSt m c 3 0 [3, 4, 5, 6] [2, 1, 0] []
      -∗ (∀ w, WaitSt m c 3 0 [6] [5, 4, 3, 2, 1, 0] [] -∗ run c (k w) Q)
      -∗ runThen c ((onBufs (k0_part27 (F := F))) c v) k Q) := by
  simp only [onBufs, k0_part27_eq_skeleton]; unfold k0_part27_skel
  simp only [runThen, semSignalWord, semWaitWord, Prog.lift, Prog.bind_op, Prog.bind_ret, Prog.pure_eq_ret, wp_deviceId]
  iintro #HK H Hk
  iapply (step_await m K c 3 0 (r := 3) (nil_below _) (off1' c 3)) $$ HK H; iintro H
  iapply (step_await m K c 3 0 (r := 4) (nil_below _) (off1' c 4)) $$ HK H; iintro H
  iapply (step_await m K c 3 0 (r := 5) (nil_below _) (off1' c 5)) $$ HK H; iintro H
  iapply Hk; iexact H

/-- Part 28: the last wait for the finished rows of half 0, and the first rows of the result. -/
theorem part28 {α : Type} {v : BitVec 32} {k : (FVec F S64x1024 .f32) → Prog (TpuEff nD τ sig (Elt F) Λ₀ .tc) α} {Q : α → sProp 𝕄} :
    know m K ⊢ iprop(WaitSt m c 3 0 [6] [5, 4, 3, 2, 1, 0] [] -∗ piece c agM (slotR 0 c) (lent c) (agV m c 0) -∗ OutSt m c 0 [0, 1, 2, 3, 4, 5, 6, 7] []
      -∗ (owesE (F := F) c [] -∗ DoneAt (F := F) c 3 0 -∗ AgAll m c 0 -∗ OutSt m c 0 [3, 4, 5, 6, 7] [2, 1, 0] -∗ run c (k (k0_pay31 (F := F) (agV m 3 0))) Q)
      -∗ runThen c ((onBufs (k0_part28 (F := F))) c v) k Q) := by
  simp only [onBufs, k0_part28_eq_skeleton]; unfold k0_part28_skel
  simp only [runThen, semSignalWord, semWaitWord, Prog.lift, Prog.bind_op, Prog.bind_ret, Prog.pure_eq_ret, wp_deviceId]
  iintro #HK H HV HO Hk
  iapply (step_await m K c 3 0 (r := 6) (nil_below _) (off1' c 6)) $$ HK H; iintro H
  ihave H' := (ag_landed m c 0) $$ [H HV]
  · isplitl [H]; · iexact H
    iexact HV
  icases H' with ⟨HE, Hd, HA⟩
  unfold AgAll
  iapply (step_get c (j := 0) (ownShare c) (by rfl)) $$ HA; iintro HA
  iapply (step_put c (j := 0) (by rfl) (by rfl)) $$ HO; iintro HO
  iapply (step_get c (j := 1) (ownShare c) (by rfl)) $$ HA; iintro HA
  iapply (step_put c (j := 1) (by rfl) (by rfl)) $$ HO; iintro HO
  iapply (step_get c (j := 2) (ownShare c) (by rfl)) $$ HA; iintro HA
  iapply (step_put c (j := 2) (by rfl) (by rfl)) $$ HO; iintro HO
  iapply (step_get c (j := 3) (ownShare c) (by rfl)) $$ HA; iintro HA
  iapply Hk $$ HE Hd HA HO

/-- Part 29: the other rows of half 0. -/
theorem part29 {α : Type} {v : BitVec 32} {k : (PUnit) → Prog (TpuEff nD τ sig (Elt F) Λ₀ .tc) α} {Q : α → sProp 𝕄} :
    iprop(AgAll m c 0 ∗ OutSt m c 0 [3, 4, 5, 6, 7] [2, 1, 0]) ⊢ iprop((AgAll m c 0 -∗ OutSt m c 0 [] [7, 6, 5, 4, 3, 2, 1, 0] -∗ run c (k ⟨⟩) Q)
      -∗ runThen c ((onBufs (k0_part29 (F := F))) c v (k0_pay31 (F := F) (agV m 3 0))) k Q) := by
  simp only [onBufs, k0_part29_eq_skeleton]; unfold k0_part29_skel
  simp only [runThen, semSignalWord, semWaitWord, Prog.lift, Prog.bind_op, Prog.bind_ret, Prog.pure_eq_ret, wp_deviceId]
  iintro ⟨HA, HO⟩ Hk
  unfold AgAll
  iapply (step_put c (j := 3) (by rfl) (by rfl)) $$ HO; iintro HO
  iapply (step_get c (j := 4) (ownShare c) (by rfl)) $$ HA; iintro HA
  iapply (step_put c (j := 4) (by rfl) (by rfl)) $$ HO; iintro HO
  iapply (step_get c (j := 5) (ownShare c) (by rfl)) $$ HA; iintro HA
  iapply (step_put c (j := 5) (by rfl) (by rfl)) $$ HO; iintro HO
  iapply (step_get c (j := 6) (ownShare c) (by rfl)) $$ HA; iintro HA
  iapply (step_put c (j := 6) (by rfl) (by rfl)) $$ HO; iintro HO
  iapply (step_get c (j := 7) (ownShare c) (by rfl)) $$ HA; iintro HA
  iapply (step_put c (j := 7) (by rfl) (by rfl)) $$ HO; iintro HO
  iapply Hk $$ HA HO

/-- Part 30: three waits. -/
theorem part30 {α : Type} {v : BitVec 32} {k : (BitVec 32) → Prog (TpuEff nD τ sig (Elt F) Λ₀ .tc) α} {Q : α → sProp 𝕄} :
    know m K ⊢ iprop(WaitSt m c 3 1 [0, 1, 2, 3, 4, 5, 6] [] []
      -∗ (∀ w, WaitSt m c 3 1 [3, 4, 5, 6] [2, 1, 0] [] -∗ run c (k w) Q)
      -∗ runThen c ((onBufs (k0_part30 (F := F))) c v) k Q) := by
  simp only [onBufs, k0_part30_eq_skeleton]; unfold k0_part30_skel
  simp only [runThen, semSignalWord, semWaitWord, Prog.lift, Prog.bind_op, Prog.bind_ret, Prog.pure_eq_ret, wp_deviceId]
  iintro #HK H Hk
  iapply (step_await m K c 3 1 (r := 0) (nil_below _) (off6' c 0)) $$ HK H; iintro H
  iapply (step_await m K c 3 1 (r := 1) (nil_below _) (off6' c 1)) $$ HK H; iintro H
  iapply (step_await m K c 3 1 (r := 2) (nil_below _) (off6' c 2)) $$ HK H; iintro H
  iapply Hk; iexact H

/-- Part 31: two waits. -/
theorem part31 {α : Type} {v x : BitVec 32} {k : (PUnit) → Prog (TpuEff nD τ sig (Elt F) Λ₀ .tc) α} {Q : α → sProp 𝕄} :
    know m K ⊢ iprop(WaitSt m c 3 1 [3, 4, 5, 6] [2, 1, 0] []
      -∗ (WaitSt m c 3 1 [5, 6] [4, 3, 2, 1, 0] [] -∗ run c (k ⟨⟩) Q)
      -∗ runThen c ((onBufs (k0_part31 (F := F))) c v x) k Q) := by
  simp only [onBufs, k0_part31_eq_skeleton]; unfold k0_part31_skel
  simp only [runThen, semSignalWord, semWaitWord, Prog.lift, Prog.bind_op, Prog.bind_ret, Prog.pure_eq_ret, wp_deviceId]
  iintro #HK H Hk
  iapply (step_await m K c 3 1 (r := 3) (nil_below _) (off6' c 3)) $$ HK H; iintro H
  iapply (step_await m K c 3 1 (r := 4) (nil_below _) (off6' c 4)) $$ HK H; iintro H
  iapply Hk; iexact H

/-- Part 32: the last waits for the finished rows of half 1, and the first rows of half 1 of the result. -/
theorem part32 {α : Type} {v : BitVec 32} {k : (FVec F S64x1024 .f32) → Prog (TpuEff nD τ sig (Elt F) Λ₀ .tc) α} {Q : α → sProp 𝕄} :
    know m K ⊢ iprop(WaitSt m c 3 1 [5, 6] [4, 3, 2, 1, 0] [] -∗ piece c agM (slotR 1 c) (lent c) (agV m c 1) -∗ OutSt m c 1 [0, 1, 2, 3, 4, 5, 6, 7] []
      -∗ (owesE (F := F) c [] -∗ DoneAt (F := F) c 3 1 -∗ AgAll m c 1 -∗ OutSt m c 1 [2, 3, 4, 5, 6, 7] [1, 0] -∗ run c (k (k0_pay38 (F := F) (agV m 2 1))) Q)
      -∗ runThen c ((onBufs (k0_part32 (F := F))) c v) k Q) := by
  simp only [onBufs, k0_part32_eq_skeleton]; unfold k0_part32_skel
  simp only [runThen, semSignalWord, semWaitWord, Prog.lift, Prog.bind_op, Prog.bind_ret, Prog.pure_eq_ret, wp_deviceId]
  iintro #HK H HV HO Hk
  iapply (step_await m K c 3 1 (r := 5) (nil_below _) (off6' c 5)) $$ HK H; iintro H
  iapply (step_await m K c 3 1 (r := 6) (nil_below _) (off6' c 6)) $$ HK H; iintro H
  ihave H' := (ag_landed m c 1) $$ [H HV]
  · isplitl [H]; · iexact H
    iexact HV
  icases H' with ⟨HE, Hd, HA⟩
  unfold AgAll
  iapply (step_get c (j := 0) (ownShare c) (by rfl)) $$ HA; iintro HA
  iapply (step_put c (j := 0) (by rfl) (by rfl)) $$ HO; iintro HO
  iapply (step_get c (j := 1) (ownShare c) (by rfl)) $$ HA; iintro HA
  iapply (step_put c (j := 1) (by rfl) (by rfl)) $$ HO; iintro HO
  iapply (step_get c (j := 2) (ownShare c) (by rfl)) $$ HA; iintro HA
  iapply (step_peek c (j := 2) (by rfl)) $$ HO; iintro %Y HO
  iapply Hk $$ HE Hd HA HO

/-- Part 33: the other rows of half 1. -/
theorem part33 {α : Type} {k : (PUnit) → Prog (TpuEff nD τ sig (Elt F) Λ₀ .tc) α} {Q : α → sProp 𝕄} :
    iprop(AgAll m c 1 ∗ OutSt m c 1 [2, 3, 4, 5, 6, 7] [1, 0]) ⊢ iprop((AgAll m c 1 -∗ OutSt m c 1 [] [7, 6, 5, 4, 3, 2, 1, 0] -∗ run c (k ⟨⟩) Q)
      -∗ runThen c ((onBufs (k0_part33 (F := F))) (k0_pay38 (F := F) (agV m 2 1))) k Q) := by
  simp only [onBufs, k0_part33_eq_skeleton]; unfold k0_part33_skel
  simp only [runThen, semSignalWord, semWaitWord, Prog.lift, Prog.bind_op, Prog.bind_ret, Prog.pure_eq_ret, wp_deviceId]
  iintro ⟨HA, HO⟩ Hk
  unfold AgAll
  iapply (step_pour c (j := 2) (by rfl) (by rfl)) $$ HO; iintro HO
  iapply (step_get c (j := 3) (ownShare c) (by rfl)) $$ HA; iintro HA
  iapply (step_put c (j := 3) (by rfl) (by rfl)) $$ HO; iintro HO
  iapply (step_get c (j := 4) (ownShare c) (by rfl)) $$ HA; iintro HA
  iapply (step_put c (j := 4) (by rfl) (by rfl)) $$ HO; iintro HO
  iapply (step_get c (j := 5) (ownShare c) (by rfl)) $$ HA; iintro HA
  iapply (step_put c (j := 5) (by rfl) (by rfl)) $$ HO; iintro HO
  iapply (step_get c (j := 6) (ownShare c) (by rfl)) $$ HA; iintro HA
  iapply (step_put c (j := 6) (by rfl) (by rfl)) $$ HO; iintro HO
  iapply (step_get c (j := 7) (ownShare c) (by rfl)) $$ HA; iintro HA
  iapply (step_put c (j := 7) (by rfl) (by rfl)) $$ HO; iintro HO
  iapply Hk $$ HA HO

/-- Part 34: four waits for copies to have left. -/
theorem part34 {α : Type} {k : (PUnit) → Prog (TpuEff nD τ sig (Elt F) Λ₀ .tc) α} {Q : α → sProp 𝕄} :
    know m K ⊢ iprop(WaitSt m c 0 0 [0, 1, 2, 3, 4, 5, 6] [] []
      -∗ (WaitSt m c 0 0 [4, 5, 6] [3, 2, 1, 0] [] -∗ run c (k ⟨⟩) Q)
      -∗ runThen c ((onBufs (k0_part34 (F := F))) c) k Q) := by
  simp only [onBufs, k0_part34_eq_skeleton]; unfold k0_part34_skel
  simp only [runThen, semSignalWord, semWaitWord, Prog.lift, Prog.bind_op, Prog.bind_ret, Prog.pure_eq_ret, wp_deviceId]
  iintro #HK H Hk
  iapply (step_await m K c 0 0 (r := 0) (nil_below _) (off1' c 0)) $$ HK H; iintro H
  iapply (step_await m K c 0 0 (r := 1) (nil_below _) (off1' c 1)) $$ HK H; iintro H
  iapply (step_await m K c 0 0 (r := 2) (nil_below _) (off1' c 2)) $$ HK H; iintro H
  iapply (step_await m K c 0 0 (r := 3) (nil_below _) (off1' c 3)) $$ HK H; iintro H
  iapply Hk; iexact H

/-- Part 35: three waits. -/
theorem part35 {α : Type} {k : (PUnit) → Prog (TpuEff nD τ sig (Elt F) Λ₀ .tc) α} {Q : α → sProp 𝕄} :
    know m K ⊢ iprop(WaitSt m c 0 0 [4, 5, 6] [3, 2, 1, 0] []
      -∗ (WaitSt m c 0 0 [] [6, 5, 4, 3, 2, 1, 0] [] -∗ run c (k ⟨⟩) Q)
      -∗ runThen c ((onBufs (k0_part35 (F := F))) c) k Q) := by
  simp only [onBufs, k0_part35_eq_skeleton]; unfold k0_part35_skel
  simp only [runThen, semSignalWord, semWaitWord, Prog.lift, Prog.bind_op, Prog.bind_ret, Prog.pure_eq_ret, wp_deviceId]
  iintro #HK H Hk
  iapply (step_await m K c 0 0 (r := 4) (nil_below _) (off1' c 4)) $$ HK H; iintro H
  iapply (step_await m K c 0 0 (r := 5) (nil_below _) (off1' c 5)) $$ HK H; iintro H
  iapply (step_await m K c 0 0 (r := 6) (nil_below _) (off1' c 6)) $$ HK H; iintro H
  iapply Hk; iexact H

/-- Part 36: four waits. -/
theorem part36 {α : Type} {k : (PUnit) → Prog (TpuEff nD τ sig (Elt F) Λ₀ .tc) α} {Q : α → sProp 𝕄} :
    know m K ⊢ iprop(WaitSt m c 0 1 [0, 1, 2, 3, 4, 5, 6] [] []
      -∗ (WaitSt m c 0 1 [4, 5, 6] [3, 2, 1, 0] [] -∗ run c (k ⟨⟩) Q)
      -∗ runThen c ((onBufs (k0_part36 (F := F))) c) k Q) := by
  simp only [onBufs, k0_part36_eq_skeleton]; unfold k0_part36_skel
  simp only [runThen, semSignalWord, semWaitWord, Prog.lift, Prog.bind_op, Prog.bind_ret, Prog.pure_eq_ret, wp_deviceId]
  iintro #HK H Hk
  iapply (step_await m K c 0 1 (r := 0) (nil_below _) (off6' c 0)) $$ HK H; iintro H
  iapply (step_await m K c 0 1 (r := 1) (nil_below _) (off6' c 1)) $$ HK H; iintro H
  iapply (step_await m K c 0 1 (r := 2) (nil_below _) (off6' c 2)) $$ HK H; iintro H
  iapply (step_await m K c 0 1 (r := 3) (nil_below _) (off6' c 3)) $$ HK H; iintro H
  iapply Hk; iexact H

/-- Part 37: the last three waits for the parts, the first for the finished rows. -/
theorem part37 {α : Type} {k : (PUnit) → Prog (TpuEff nD τ sig (Elt F) Λ₀ .tc) α} {Q : α → sProp 𝕄} :
    know m K ⊢ iprop(WaitSt m c 0 1 [4, 5, 6] [3, 2, 1, 0] [] -∗ seps all7 (waitRes (F := F) c 2 0)
      -∗ (WaitSt m c 2 0 [1, 2, 3, 4, 5, 6] [0] [] -∗ DoneAt (F := F) c 0 1 -∗ (bigSep Finset.univ fun r : Fin 7 => xpay m c 0 1 (pr c r)) -∗ run c (k ⟨⟩) Q)
      -∗ runThen c ((onBufs (k0_part37 (F := F))) c) k Q) := by
  simp only [onBufs, k0_part37_eq_skeleton]; unfold k0_part37_skel
  simp only [runThen, semSignalWord, semWaitWord, Prog.lift, Prog.bind_op, Prog.bind_ret, Prog.pure_eq_ret, wp_deviceId]
  iintro #HK H HR Hk
  iapply (step_await m K c 0 1 (r := 4) (nil_below _) (off6' c 4)) $$ HK H; iintro H
  iapply (step_await m K c 0 1 (r := 5) (nil_below _) (off6' c 5)) $$ HK H; iintro H
  iapply (step_await m K c 0 1 (r := 6) (nil_below _) (off6' c 6)) $$ HK H; iintro H
  ihave H' := (wait_turn m c 0 2 1 0) $$ [H HR]
  · isplitl [H]; · iexact H
    iexact HR
  icases H' with ⟨H, Hd, Hx⟩
  iapply (step_await m K c 2 0 (r := 0) (nil_below _) (off1' c 0)) $$ HK H; iintro H
  iapply Hk $$ H Hd Hx

/-- Part 38: four waits. -/
theorem part38 {α : Type} {k : (PUnit) → Prog (TpuEff nD τ sig (Elt F) Λ₀ .tc) α} {Q : α → sProp 𝕄} :
    know m K ⊢ iprop(WaitSt m c 2 0 [1, 2, 3, 4, 5, 6] [0] []
      -∗ (WaitSt m c 2 0 [5, 6] [4, 3, 2, 1, 0] [] -∗ run c (k ⟨⟩) Q)
      -∗ runThen c ((onBufs (k0_part38 (F := F))) c) k Q) := by
  simp only [onBufs, k0_part38_eq_skeleton]; unfold k0_part38_skel
  simp only [runThen, semSignalWord, semWaitWord, Prog.lift, Prog.bind_op, Prog.bind_ret, Prog.pure_eq_ret, wp_deviceId]
  iintro #HK H Hk
  iapply (step_await m K c 2 0 (r := 1) (nil_below _) (off1' c 1)) $$ HK H; iintro H
  iapply (step_await m K c 2 0 (r := 2) (nil_below _) (off1' c 2)) $$ HK H; iintro H
  iapply (step_await m K c 2 0 (r := 3) (nil_below _) (off1' c 3)) $$ HK H; iintro H
  iapply (step_await m K c 2 0 (r := 4) (nil_below _) (off1' c 4)) $$ HK H; iintro H
  iapply Hk; iexact H

/-- Part 39: two waits, and the first of half 1. -/
theorem part39 {α : Type} {k : (PUnit) → Prog (TpuEff nD τ sig (Elt F) Λ₀ .tc) α} {Q : α → sProp 𝕄} :
    know m K ⊢ iprop(WaitSt m c 2 0 [5, 6] [4, 3, 2, 1, 0] [] -∗ seps all7 (waitRes (F := F) c 2 1)
      -∗ (WaitSt m c 2 1 [1, 2, 3, 4, 5, 6] [0] [] -∗ DoneAt (F := F) c 2 0 -∗ (bigSep Finset.univ fun r : Fin 7 => xpay m c 2 0 (pr c r)) -∗ run c (k ⟨⟩) Q)
      -∗ runThen c ((onBufs (k0_part39 (F := F))) c) k Q) := by
  simp only [onBufs, k0_part39_eq_skeleton]; unfold k0_part39_skel
  simp only [runThen, semSignalWord, semWaitWord, Prog.lift, Prog.bind_op, Prog.bind_ret, Prog.pure_eq_ret, wp_deviceId]
  iintro #HK H HR Hk
  iapply (step_await m K c 2 0 (r := 5) (nil_below _) (off1' c 5)) $$ HK H; iintro H
  iapply (step_await m K c 2 0 (r := 6) (nil_below _) (off1' c 6)) $$ HK H; iintro H
  ihave H' := (wait_turn m c 2 2 0 1) $$ [H HR]
  · isplitl [H]; · iexact H
    iexact HR
  icases H' with ⟨H, Hd, Hx⟩
  iapply (step_await m K c 2 1 (r := 0) (nil_below _) (off6' c 0)) $$ HK H; iintro H
  iapply Hk $$ H Hd Hx

/-- Part 40: four waits. -/
theorem part40 {α : Type} {k : (PUnit) → Prog (TpuEff nD τ sig (Elt F) Λ₀ .tc) α} {Q : α → sProp 𝕄} :
    know m K ⊢ iprop(WaitSt m c 2 1 [1, 2, 3, 4, 5, 6] [0] []
      -∗ (WaitSt m c 2 1 [5, 6] [4, 3, 2, 1, 0] [] -∗ run c (k ⟨⟩) Q)
      -∗ runThen c ((onBufs (k0_part40 (F := F))) c) k Q) := by
  simp only [onBufs, k0_part40_eq_skeleton]; unfold k0_part40_skel
  simp only [runThen, semSignalWord, semWaitWord, Prog.lift, Prog.bind_op, Prog.bind_ret, Prog.pure_eq_ret, wp_deviceId]
  iintro #HK H Hk
  iapply (step_await m K c 2 1 (r := 1) (nil_below _) (off6' c 1)) $$ HK H; iintro H
  iapply (step_await m K c 2 1 (r := 2) (nil_below _) (off6' c 2)) $$ HK H; iintro H
  iapply (step_await m K c 2 1 (r := 3) (nil_below _) (off6' c 3)) $$ HK H; iintro H
  iapply (step_await m K c 2 1 (r := 4) (nil_below _) (off6' c 4)) $$ HK H; iintro H
  iapply Hk; iexact H

end Cert.KernelIdeal.Exch

end
-- ==== Proof.KernelIdeal.Slots.lean ====
/-
The regroupings between the phases of the kernel: whole buffers and their slots, what the barrier hands over and the
resources of the copies, the share of a finished slot lent to each device, and the closing of the cells.
-/
module

public import proofs.«01_k».proof.Proof.KernelIdeal.Parts4
public import Idealize.ShloMosaic.Lib.ViewIndex

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-! ## Whole buffers and their slots -/

theorem slots_apart : ∀ t t' : Fin 2 × Dev nD, t ≠ t' → Disjoint (slotR t.1 t.2).set (slotR t'.1 t'.2).set := by
  rintro ⟨s, i⟩ ⟨s', i'⟩ h
  by_cases hs : s = s'
  · subst hs
    have hi : i.val ≠ i'.val := fun e => h (by rw [Fin.ext e])
    refine Rect.disjoint_of_separated _ _ (1 : Fin 4) ?_
    change (1 = 0 ∨ i.val + 1 * (1 - 1) < i'.val) ∨ (1 = 0 ∨ i'.val + 1 * (1 - 1) < i.val)
    omega
  · have hv : s.val ≠ s'.val := fun e => hs (Fin.ext e)
    refine Rect.disjoint_of_separated _ _ (0 : Fin 4) ?_
    change (1 = 0 ∨ s.val + 1 * (1 - 1) < s'.val) ∨ (1 = 0 ∨ s'.val + 1 * (1 - 1) < s.val)
    omega

theorem slots_all : ∀ x : S2x8x64x1024.Idx, ∃ t : Fin 2 × Dev nD, x ∈ (slotR t.1 t.2).set := by
  intro x
  refine ⟨(⟨(x 0).val, (x 0).isLt⟩, ⟨(x 1).val, (x 1).isLt⟩), (LoadRect.mem_set _).mpr fun a => ?_⟩
  fin_cases a
  · exact ⟨0, Nat.one_pos, rfl⟩
  · exact ⟨0, Nat.one_pos, rfl⟩
  · exact ⟨(x 2).val, (x 2).isLt, by change (x 2).val = 0 + 1 * (x 2).val; omega⟩
  · exact ⟨(x 3).val, (x 3).isLt, by change (x 3).val = 0 + 1 * (x 3).val; omega⟩

theorem rows_apart : ∀ t t' : Fin 2 × Dev nD, t ≠ t' → Disjoint (rowR t.1 t.2).set (rowR t'.1 t'.2).set := by
  rintro ⟨s, i⟩ ⟨s', i'⟩ h
  have hv : s.val ≠ s'.val ∨ i.val ≠ i'.val := by
    by_contra hh
    push Not at hh
    exact h (Prod.ext (Fin.ext hh.1) (Fin.ext hh.2))
  have := s.isLt; have := s'.isLt
  refine Rect.disjoint_of_separated _ _ (0 : Fin 2) ?_
  change (64 = 0 ∨ (128 * i.val + 64 * s.val) + 1 * (64 - 1) < 128 * i'.val + 64 * s'.val)
    ∨ (64 = 0 ∨ (128 * i'.val + 64 * s'.val) + 1 * (64 - 1) < 128 * i.val + 64 * s.val)
  omega

theorem rows_all : ∀ x : S1024x1024.Idx, ∃ t : Fin 2 × Dev nD, x ∈ (rowR t.1 t.2).set := by
  intro x
  have h0 : (x 0).val < 1024 := (x 0).isLt
  refine ⟨(⟨(x 0).val / 64 % 2, Nat.mod_lt _ (by decide)⟩, ⟨(x 0).val / 128, by show _ < 8; omega⟩), (LoadRect.mem_set _).mpr fun a => ?_⟩
  fin_cases a
  · refine ⟨(x 0).val % 64, Nat.mod_lt _ (by decide), ?_⟩
    change (x 0).val = (128 * ((x 0).val / 128) + 64 * ((x 0).val / 64 % 2)) + 1 * ((x 0).val % 64)
    omega
  · exact ⟨(x 1).val, (x 1).isLt, by change (x 1).val = 0 + 1 * (x 1).val; omega⟩

/-- Sixteen things, half by half. -/
theorem halves (Φ : Fin 2 × Dev nD → sProp 𝕄) :
    bigSep Finset.univ Φ = iprop((bigSep Finset.univ fun i => Φ (0, i)) ∗ bigSep Finset.univ fun i => Φ (1, i)) := by
  rw [bigSep_univ_prod, bigSep_fin_two]
  rfl

section Cut
variable {sp : CoreSpace} {S : Shape} {e : EltTy} (b : Memref sig .tc sp S e) (R : Fin 2 → Dev nD → Rect S)

/-- A whole buffer falls into sixteen pieces. -/
theorem cut (hd : ∀ t t' : Fin 2 × Dev nD, t ≠ t' → Disjoint (R t.1 t.2).set (R t'.1 t'.2).set)
    (hc : ∀ x, ∃ t : Fin 2 × Dev nD, x ∈ (R t.1 t.2).set) :
    iprop(∃ f : Buf (Elt F) (b.view.loc (c : Thread nD τ)), (b.view.loc (c : Thread nD τ) ↦[b.view.set]{fullShare} f))
      ⊢ iprop((bigSep Finset.univ fun i => someP (F := F) c b (R 0 i)) ∗ bigSep Finset.univ fun i => someP (F := F) c b (R 1 i)) := by
  rw [← halves fun t => someP (F := F) c b (R t.1 t.2)]
  have h (t : Fin 2 × Dev nD) (X : (R t.1 t.2).shape.Idx → Elt F e) :
      piece c b (R t.1 t.2) fullShare X ⊢ (someP (F := F) c b (R t.1 t.2) : sProp 𝕄) := by
    unfold someP
    iintro H
    iexists X
    iexact H
  iintro ⟨%f, H⟩
  iapply ((pieces_split c b (fun t : Fin 2 × Dev nD => R t.1 t.2) hd hc fullShare f).trans (bigSep_mono fun t _ => h t _)) $$ H

/-- Sixteen pieces make up a whole buffer. -/
theorem uncut [∀ e, Nonempty (Elt F e)] (hd : ∀ t t' : Fin 2 × Dev nD, t ≠ t' → Disjoint (R t.1 t.2).set (R t'.1 t'.2).set)
    (hc : ∀ x, ∃ t : Fin 2 × Dev nD, x ∈ (R t.1 t.2).set) (X : (s : Fin 2) → (i : Dev nD) → (R s i).shape.Idx → Elt F e) :
    iprop((bigSep Finset.univ fun i => piece c b (R 0 i) fullShare (X 0 i)) ∗ bigSep Finset.univ fun i => piece c b (R 1 i) fullShare (X 1 i))
      ⊢ (iprop(∃ f : Buf (Elt F) (b.view.loc (c : Thread nD τ)), ⌜∀ s i, (b.access (R s i)).read (Elt F) f = X s i⌝
          ∗ (b.view.loc (c : Thread nD τ) ↦[b.view.set]{fullShare} f)) : sProp 𝕄) := by
  rw [← halves fun t => piece c b (R t.1 t.2) fullShare (X t.1 t.2)]
  iintro H
  ihave H := (pieces_join c b (fun t : Fin 2 × Dev nD => R t.1 t.2) hd hc fullShare (fun t => X t.1 t.2)) $$ H
  icases H with ⟨%f, %hf, H⟩
  iexists f
  isplitr
  · ipureintro; exact fun s i => hf (s, i)
  · iexact H

end Cut

/-! ## What a device starts the phases with -/

/-- The right to pay the copies out of `c`'s cells of kind `k` and half `s`; -/
def near (k : Fin 4) (s : Fin 2) : sProp 𝕄 := bigSep Finset.univ fun r : Fin 7 => dutyTok ER (xc c k s (pr c r)) 0 0
/-- into its peers'; -/
def far (k : Fin 4) (s : Fin 2) : sProp 𝕄 := bigSep Finset.univ fun r : Fin 7 => dutyTok ER (xc (pr c r) k s c) 0 0
/-- to signal its peers' barriers; -/
def sigs : sProp 𝕄 := bigSep Finset.univ fun r : Fin 7 => dutyTok ER (barCell (pr c r)) 0 (rev r)
/-- its positions at its cells of kind `k` and half `s`; -/
def posn (k : Fin 4) (s : Fin 2) : sProp 𝕄 := bigSep Finset.univ fun r : Fin 7 => atPos ER (xc c k s (pr c r)) 0 ∅ 0
/-- and the credit of what its peers will send it. -/
def crd (k : Fin 4) (s : Fin 2) : sProp 𝕄 := bigSep Finset.univ fun r : Fin 7 => cred (tallyAt (xc c k s (pr c r)) () N)
/-- The slots `(s, c)` of the peers' landing buffer `b`. -/
def lands (b : Memref sig .tc .vmem S2x8x64x1024 .bf16) (s : Fin 2) : sProp 𝕄 :=
  bigSep Finset.univ fun r : Fin 7 => someP (F := F) (pr c r) b (slotR s c)
/-- A peer-indexed family as the list the kernel walks. -/
theorem walk (Φ : Fin 7 → sProp 𝕄) : seps all7 Φ = bigSep Finset.univ Φ := seps_univ _ _ (by decide) (by decide)
/-- A device-indexed family as the list the kernel walks. -/
theorem stroll (Φ : Dev nD → sProp 𝕄) : seps [0, 1, 2, 3, 4, 5, 6, 7] Φ = bigSep Finset.univ Φ := seps_univ _ _ (by decide) (by decide)
/-- The lists a walk leaves are the families again. -/
theorem walked (Φ : Fin 7 → sProp 𝕄) : seps [6, 5, 4, 3, 2, 1, 0] Φ = bigSep Finset.univ Φ := seps_univ _ _ (by decide) (by decide)
theorem strolled (Φ : Dev nD → sProp 𝕄) : seps [7, 6, 5, 4, 3, 2, 1, 0] Φ = bigSep Finset.univ Φ := seps_univ _ _ (by decide) (by decide)

/-- A family of pairs is the pair of the families. -/
theorem unzip {I : Type} [Fintype I] [DecidableEq I] (Φ Ψ : I → sProp 𝕄) :
    (bigSep Finset.univ fun i => iprop(Φ i ∗ Ψ i)) ⊣⊢ iprop(bigSep Finset.univ Φ ∗ bigSep Finset.univ Ψ) :=
  ⟨Entails.of_eq (bigSep_sep _ _ _), Entails.of_eq (bigSep_sep _ _ _).symm⟩
theorem unzip4 {I : Type} [Fintype I] [DecidableEq I] (Φ Ψ Χ Ω : I → sProp 𝕄) :
    (bigSep Finset.univ fun i => iprop(Φ i ∗ Ψ i ∗ Χ i ∗ Ω i))
      ⊣⊢ iprop(bigSep Finset.univ Φ ∗ bigSep Finset.univ Ψ ∗ bigSep Finset.univ Χ ∗ bigSep Finset.univ Ω) := by
  have h := bigSep_sep (Finset.univ : Finset I) Φ (fun i => iprop(Ψ i ∗ Χ i ∗ Ω i))
  have h2 := bigSep_sep (Finset.univ : Finset I) Ψ (fun i => iprop(Χ i ∗ Ω i))
  have h3 := bigSep_sep (Finset.univ : Finset I) Χ Ω
  have e : (bigSep Finset.univ fun i => iprop(Φ i ∗ Ψ i ∗ Χ i ∗ Ω i))
      = iprop(bigSep Finset.univ Φ ∗ bigSep Finset.univ Ψ ∗ bigSep Finset.univ Χ ∗ bigSep Finset.univ Ω) :=
    h.trans (congrArg _ (h2.trans (congrArg _ h3)))
  exact ⟨Entails.of_eq e, Entails.of_eq e.symm⟩

/-- Before the signals: the landing buffers are cut, their peers' slots go with the signals, the device's own stay. -/
theorem set_out :
    iprop(owesE (F := F) c (due c) ∗ sigs (F := F) c
        ∗ ((bigSep Finset.univ fun i => someP (F := F) c rsM (slotR 0 i)) ∗ bigSep Finset.univ fun i => someP (F := F) c rsM (slotR 1 i))
        ∗ ((bigSep Finset.univ fun i => someP (F := F) c agM (slotR 0 i)) ∗ bigSep Finset.univ fun i => someP (F := F) c agM (slotR 1 i)))
      ⊢ iprop(SigSt (F := F) c all7 (dueRs c) ∗ (someP (F := F) c rsM (slotR 0 c) ∗ someP (F := F) c rsM (slotR 1 c))
        ∗ (someP (F := F) c agM (slotR 0 c) ∗ someP (F := F) c agM (slotR 1 c))) := by
  unfold SigSt
  rw [walk, peers_eq c fun i => someP (F := F) c rsM (slotR 0 i), peers_eq c fun i => someP (F := F) c rsM (slotR 1 i),
    peers_eq c fun i => someP (F := F) c agM (slotR 0 i), peers_eq c fun i => someP (F := F) c agM (slotR 1 i)]
  iintro ⟨HO, Ht, ⟨⟨Ha, HA⟩, ⟨Hb, HB⟩⟩, ⟨⟨Hc, HC⟩, ⟨Hd, HD⟩⟩⟩
  isplitr [Ha Hb Hc Hd]
  · isplitl [HO]; · iexact HO
    unfold sigRes
    iapply (unzip _ _).2
    isplitl [Ht]; · unfold sigs; iexact Ht
    unfold land
    iapply (unzip4 _ _ _ _).2
    isplitl [HA]; · iexact HA
    isplitl [HB]; · iexact HB
    isplitl [HC]; · iexact HC
    iexact HD
  isplitl [Ha Hb]
  · isplitl [Ha]; · iexact Ha
    iexact Hb
  · isplitl [Hc]; · iexact Hc
    iexact Hd

/-- What the barrier hands over: the four slots of every peer's landing buffers. -/
theorem deal : (bigSep Finset.univ fun r : Fin 7 => land (F := F) (pr c r) c)
    ⊢ iprop(lands (F := F) c rsM 0 ∗ lands (F := F) c rsM 1 ∗ lands (F := F) c agM 0 ∗ lands (F := F) c agM 1) := by
  unfold land lands
  exact (unzip4 _ _ _ _).1

/-- What sending the parts of half `s` takes, from the filled source slots, the peers' landing slots and the rights. -/
theorem rs_ready (s : Fin 2) :
    iprop((bigSep Finset.univ fun j => piece c srcM (slotR s j) fullShare (srcV m c s j)) ∗ lands (F := F) c rsM s ∗ near (F := F) c 0 s ∗ far (F := F) c 1 s)
      ⊢ iprop(piece c srcM (slotR s c) fullShare (srcV m c s c) ∗ seps all7 (rsRes m c s)) := by
  rw [peers_eq c fun j => piece c srcM (slotR s j) fullShare (srcV m c s j), walk]
  iintro ⟨⟨Hc, Hs⟩, Hl, Hn, Hf⟩
  isplitl [Hc]; · iexact Hc
  unfold rsRes
  iapply (unzip4 _ _ _ _).2
  isplitl [Hs]; · iexact Hs
  unfold lands near far
  isplitl [Hl]; · iexact Hl
  isplitl [Hn]; · iexact Hn
  iexact Hf

/-! ## The shares of a finished slot -/

/-- What is left of a finished slot when every device has been lent its share. -/
abbrev kept : PosShare TreeShare := Transfers.shareDrop fullShare 8

section Share
variable {sp : CoreSpace} {S : Shape} {e : EltTy} {b : Memref sig .tc sp S e} {R : Rect S} {X : R.shape.Idx → Elt F e}

/-- A piece at the full share falls into what is kept and what is lent to each device. -/
theorem lend : piece c b R fullShare X
    ⊢ (iprop(piece c b R kept X ∗ bigSep Finset.univ fun i : Dev nD => piece c b R (lent i) X) : sProp 𝕄) := by
  unfold piece
  iintro ⟨%f, %hf, H⟩
  ihave H := (Transfers.pointsTo_toks_split fullShare 8) $$ H
  icases H with ⟨Hk, Hl⟩
  isplitl [Hk]
  · iexists f
    isplitr; · ipureintro; exact hf
    iexact Hk
  · have h (i : Dev nD) : ((b.access R).loc (c : Thread nD τ) ↦[(b.access R).set]{lent i} f : sProp 𝕄)
        ⊢ iprop(∃ f, ⌜(b.access R).read (Elt F) f = X⌝ ∗ ((b.access R).loc (c : Thread nD τ) ↦[(b.access R).set]{lent i} f)) := by
      iintro H
      iexists f
      isplitr; · ipureintro; exact hf
      iexact H
    have h' := bigSep_mono (s := (Finset.univ : Finset (Dev nD))) fun i _ => h i
    iapply (show (bigSep Finset.univ fun i : Dev nD => ((b.access R).loc (c : Thread nD τ) ↦[(b.access R).set]{lent i} f : sProp 𝕄)) ⊢ _ from h') $$ Hl

/-- A piece has the contents of any buffer that reads the same there. -/
theorem piece_as {q : PosShare TreeShare} (f : Buf (Elt F) ((b.access R).loc (c : Thread nD τ))) (hf : (b.access R).read (Elt F) f = X) :
    piece c b R q X ⊢ ((b.access R).loc (c : Thread nD τ) ↦[(b.access R).set]{q} f : sProp 𝕄) := by
  unfold piece
  iintro ⟨%g, %hg, H⟩
  have h : ((b.access R).loc (c : Thread nD τ) ↦[(b.access R).set]{q} g : sProp 𝕄) = ((b.access R).loc (c : Thread nD τ) ↦[(b.access R).set]{q} f) :=
    pointsTo_congr fun i hi => by
      obtain ⟨x, -, rfl⟩ := Finset.mem_map.mp hi
      exact View.eq_of_read_eq (congrFun (hg.trans hf.symm) x)
  iapply (Entails.of_eq h) $$ H

/-- The shares put together. -/
theorem unlend : iprop(piece c b R kept X ∗ bigSep Finset.univ fun i : Dev nD => piece c b R (lent i) X)
    ⊢ (piece c b R fullShare X : sProp 𝕄) := by
  conv_lhs => rw [piece]
  iintro ⟨⟨%f, %hf, Hk⟩, Hl⟩
  have h' := bigSep_mono (s := (Finset.univ : Finset (Dev nD))) fun i _ => piece_as c (q := lent i) f hf
  ihave Hl := (show (bigSep Finset.univ fun i : Dev nD => piece c b R (lent i) X) ⊢ _ from h') $$ Hl
  unfold piece
  iexists f
  isplitr; · ipureintro; exact hf
  iapply (Transfers.pointsTo_toks_join fullShare 8)
  isplitl [Hk]; · iexact Hk
  iexact Hl

end Share

/-- What sending the finished rows of half `s` takes. -/
theorem ag_ready (s : Fin 2) :
    iprop(FinSt m c s [] [c] ∗ lands (F := F) c agM s ∗ near (F := F) c 2 s ∗ far (F := F) c 3 s)
      ⊢ iprop(piece c agM (slotR s c) kept (agV m c s) ∗ piece c agM (slotR s c) (lent c) (agV m c s) ∗ seps all7 (agRes m c s)) := by
  unfold FinSt FillSt
  rw [walk, seps_cons]
  iintro ⟨⟨-, Hp, -⟩, Hl, Hn, Hf⟩
  ihave Hp := (lend c) $$ Hp
  rw [peers_eq c]
  icases Hp with ⟨Hk, Hc, Hp⟩
  isplitl [Hk]; · iexact Hk
  isplitl [Hc]; · iexact Hc
  unfold agRes
  iapply (unzip4 _ _ _ _).2
  isplitl [Hp]; · iexact Hp
  unfold lands near far
  isplitl [Hl]; · iexact Hl
  isplitl [Hn]; · iexact Hn
  iexact Hf

/-- The finished rows of half `s` again at the full share, when the copies have left. -/
theorem ag_back (s : Fin 2) :
    iprop(AgAll m c s ∗ piece c agM (slotR s c) kept (agV m c s) ∗ bigSep Finset.univ fun r : Fin 7 => xpay m c 2 s (pr c r))
      ⊢ bigSep Finset.univ fun i => piece c agM (slotR s i) fullShare (agV m i s) := by
  rw [AgAll_eq, peers_eq c fun i => piece c agM (slotR s i) fullShare (agV m i s)]
  iintro ⟨⟨Hc, Hx⟩, Hk, Hp⟩
  isplitr [Hx]
  · iapply (unlend c)
    isplitl [Hk]; · iexact Hk
    rw [peers_eq c fun i => piece c agM (slotR s c) (lent i) (agV m c s)]
    isplitl [Hc]; · iexact Hc
    iexact Hp
  · iexact Hx

/-- The parts of half `s` again, when the copies have left. -/
theorem rs_back (s : Fin 2) :
    iprop(piece c srcM (slotR s c) fullShare (srcV m c s c) ∗ bigSep Finset.univ fun r : Fin 7 => xpay m c 0 s (pr c r))
      ⊢ bigSep Finset.univ fun i => piece c srcM (slotR s i) fullShare (srcV m c s i) := by
  rw [peers_eq c fun i => piece c srcM (slotR s i) fullShare (srcV m c s i)]
  exact BI.Entails.refl _

/-! ## Waits and cells -/

/-- What the waits for landed slots take. -/
theorem wait_ready (k : Fin 4) (s : Fin 2) : iprop(crd (F := F) c k s ∗ posn (F := F) c k s) ⊢ seps all7 (waitRes (F := F) c k s) := by
  rw [walk]
  unfold waitRes crd posn
  exact (unzip _ _).2
/-- What the waits for copies that left take. -/
theorem left_ready (k : Fin 4) (s : Fin 2) : iprop(seps [6, 5, 4, 3, 2, 1, 0] (sentRes (F := F) c k s) ∗ posn (F := F) c k s)
    ⊢ seps all7 (waitRes (F := F) c k s) := by
  rw [walked]
  exact wait_ready c k s

/-- The cells of kind `k` and half `s`, closed. -/
def shut (k : Fin 4) (s : Fin 2) : sProp 𝕄 := bigSep Finset.univ fun i : Dev nD => semVal (xc c k s i) 0

theorem close (k : Fin 4) (s : Fin 2) :
    know m K ⊢ iprop(DoneAt (F := F) c k s -∗ atPos ER (xc c k s c) 0 ∅ 0 -∗ |={Set.univ}=> shut (F := F) c k s) := by
  unfold know shut DoneAt
  rw [peers_eq c fun i => semVal (xc c k s i) 0]
  iintro ⟨#HK, -⟩ Hd Ho
  ihave HI := (rec_x m K c k s c) $$ HK
  icases HI with ⟨HI, -⟩
  imod (Rounds.cell_close ER (sched m) (Set.mem_univ _) (fun h => h) (R := 0) fun r _ => duties_own m c k s r) $$ [HI Ho] with Ho
  · isplitl [HI]; · iexact HI
    iexact Ho
  imod ((bigSep_with_persistent (R := records m K) (Ψ := fun r : Fin 7 => iprop(|={Set.univ}=> semVal (xc c k s (pr c r)) 0)) fun r _ => ?_).trans
    (bigSep_fupd _ _)) $$ [Hd] with Hd
  rotate_left
  · isplitr; · iexact HK
    iexact Hd
  · imodintro
    isplitl [Ho]; · iexact Ho
    iexact Hd
  · iintro ⟨HK, H⟩
    ihave HI := (rec_x m K c k s (pr c r)) $$ HK
    icases HI with ⟨HI, -⟩
    iapply (Rounds.cell_close ER (sched m) (Set.mem_univ _) (fun h => h) (R := 1) fun r' hr => duties_later m _ r' hr)
    isplitl [HI]; · iexact HI
    iexact H

theorem close_bar : know m K ⊢ iprop(atPos ER (barCell c) 1 ∅ 0 -∗ |={Set.univ}=> (semVal (barCell c) 0 : sProp 𝕄)) := by
  unfold know
  iintro ⟨#HK, -⟩ H
  ihave HI := (rec_bar m K c) $$ HK
  icases HI with ⟨HI, -⟩
  iapply (Rounds.cell_close ER (sched m) (Set.mem_univ _) (fun h => h) (R := 1) fun r' hr => duties_later m _ r' hr)
  isplitl [HI]; · iexact HI
  iexact H

end Cert.KernelIdeal.Exch

end
-- ==== Proof.KernelIdeal.Turns.lean ====
/-
The kernel's body on one device, from what the launch gives it to what it leaves: the forty parts in order, with the
regroupings between them.
-/
module

public import proofs.«01_k».proof.Proof.KernelIdeal.Slots

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- The rights a device starts with: to signal, and to pay for the copies it sends. -/
def rights : sProp 𝕄 :=
  iprop(sigs (F := F) c ∗ (near (F := F) c 0 0 ∗ near (F := F) c 0 1 ∗ near (F := F) c 2 0 ∗ near (F := F) c 2 1)
    ∗ (far (F := F) c 1 0 ∗ far (F := F) c 1 1 ∗ far (F := F) c 3 0 ∗ far (F := F) c 3 1))
/-- The credit it starts with. -/
def credits : sProp 𝕄 :=
  iprop(cred (tallyAt (barCell c) () 7) ∗ crd (F := F) c 1 0 ∗ crd (F := F) c 1 1 ∗ crd (F := F) c 3 0 ∗ crd (F := F) c 3 1)
/-- Its positions at its cells of one kind and half: at the one that no copy uses, and at the others. -/
def posn' (k : Fin 4) (s : Fin 2) : sProp 𝕄 := iprop(atPos ER (xc c k s c) 0 ∅ 0 ∗ posn (F := F) c k s)
def places : sProp 𝕄 :=
  iprop(atPos ER (barCell c) 0 ∅ 0 ∗ (posn' (F := F) c 0 0 ∗ posn' (F := F) c 0 1) ∗ (posn' (F := F) c 1 0 ∗ posn' (F := F) c 1 1)
    ∗ (posn' (F := F) c 2 0 ∗ posn' (F := F) c 2 1) ∗ (posn' (F := F) c 3 0 ∗ posn' (F := F) c 3 1))
/-- The sixteen slots of a scratch buffer, whatever they hold. -/
def slots (b : Memref sig .tc .vmem S2x8x64x1024 .bf16) : sProp 𝕄 :=
  iprop((bigSep Finset.univ fun i => someP (F := F) c b (slotR 0 i)) ∗ bigSep Finset.univ fun i => someP (F := F) c b (slotR 1 i))
/-- The sixteen slots, holding `X`. -/
def slotsAt (b : Memref sig .tc .vmem S2x8x64x1024 .bf16) (X : Fin 2 → Dev nD → Vec F S1x1x64x1024 .bf16) : sProp 𝕄 :=
  iprop((bigSep Finset.univ fun i => piece c b (slotR 0 i) fullShare (X 0 i)) ∗ bigSep Finset.univ fun i => piece c b (slotR 1 i) fullShare (X 1 i))
/-- All cells closed. -/
def allShut : sProp 𝕄 :=
  iprop(semVal (barCell c) 0 ∗ (shut (F := F) c 0 0 ∗ shut (F := F) c 0 1) ∗ (shut (F := F) c 1 0 ∗ shut (F := F) c 1 1)
    ∗ (shut (F := F) c 2 0 ∗ shut (F := F) c 2 1) ∗ (shut (F := F) c 3 0 ∗ shut (F := F) c 3 1))

/-- The source slots to be filled, from the slots. -/
theorem src_open : slots (F := F) c srcM ⊢ iprop(SrcSt m c 0 [0, 1, 2, 3, 4, 5, 6, 7] [] ∗ SrcSt m c 1 [0, 1, 2, 3, 4, 5, 6, 7] []) := by
  unfold slots SrcSt FillSt
  rw [stroll, stroll]
  iintro ⟨H, H'⟩
  isplitl [H]
  · isplitl [H]; · iexact H
    iempintro
  · isplitl [H']; · iexact H'
    iempintro

/-- A filled family. -/
theorem filled {S : Shape} {e : EltTy} {b : Memref sig .tc .vmem S e} {R : Dev nD → Rect S} {X : (i : Dev nD) → (R i).shape.Idx → Elt F e} :
    FillSt c b R X [] [7, 6, 5, 4, 3, 2, 1, 0] ⊢ (bigSep Finset.univ fun i => piece c b (R i) fullShare (X i) : sProp 𝕄) := by
  unfold FillSt
  rw [strolled]
  iintro ⟨-, H⟩
  iexact H

/-- A device's own slot, about to be filled. -/
theorem fin_open (s : Fin 2) : someP (F := F) c agM (slotR s c) ⊢ FinSt m c s [c] [] := by
  unfold FinSt FillSt
  rw [seps_cons]
  iintro H
  isplitl [H]
  · isplitl [H]; · iexact H
    iempintro
  · iempintro

/-- After the barrier: what sending the parts of half 0 takes, and what is kept for later. -/
theorem open_sends {rest : List (GSem nD τ sig × ℕ)} :
    iprop((near (F := F) c 0 0 ∗ near (F := F) c 0 1 ∗ far (F := F) c 1 0 ∗ far (F := F) c 1 1)
        ∗ (someP (F := F) c rsM (slotR 0 c) ∗ someP (F := F) c rsM (slotR 1 c)) ∗ SrcSt m c 0 [] [7, 6, 5, 4, 3, 2, 1, 0])
      ⊢ iprop(SrcSt m c 1 [] [7, 6, 5, 4, 3, 2, 1, 0] -∗ BarDone (F := F) c (rsL c 0 all7 ++ rest)
        -∗ RsSt m c 0 all7 [] rest
          ∗ (seps all7 (rsRes m c 1) ∗ OwnSt m c 0 ∗ OwnSt m c 1 ∗ atPos ER (barCell c) 1 ∅ 0 ∗ lands (F := F) c agM 0 ∗ lands (F := F) c agM 1)) := by
  unfold BarDone RsSt OwnSt
  iintro ⟨⟨Hn0, Hn1, Hf0, Hf1⟩, ⟨Hr0, Hr1⟩, HS0⟩ HS1 ⟨HO, Hat, Hl⟩
  ihave HS0 := (filled c) $$ HS0
  ihave HS1 := (filled c) $$ HS1
  ihave Hl := (deal c) $$ Hl
  icases Hl with ⟨Hl0, Hl1, Ha0, Ha1⟩
  ihave H0 := (rs_ready m c 0) $$ [HS0 Hl0 Hn0 Hf0]
  · isplitl [HS0]; · iexact HS0
    isplitl [Hl0]; · iexact Hl0
    isplitl [Hn0]; · iexact Hn0
    iexact Hf0
  ihave H1 := (rs_ready m c 1) $$ [HS1 Hl1 Hn1 Hf1]
  · isplitl [HS1]; · iexact HS1
    isplitl [Hl1]; · iexact Hl1
    isplitl [Hn1]; · iexact Hn1
    iexact Hf1
  icases H0 with ⟨Hp0, H0⟩
  icases H1 with ⟨Hp1, H1⟩
  isplitl [HO H0]
  · isplitl [HO]; · iexact HO
    isplitl [H0]; · iexact H0
    iempintro
  isplitl [H1]; · iexact H1
  isplitl [Hp0 Hr0]
  · isplitl [Hp0]; · iexact Hp0
    iexact Hr0
  isplitl [Hp1 Hr1]
  · isplitl [Hp1]; · iexact Hp1
    iexact Hr1
  isplitl [Hat]; · iexact Hat
  isplitl [Ha0]; · iexact Ha0
  iexact Ha1

/-- When the signals are sent: the barrier, about to be waited for. -/
theorem bar_open : iprop(SigSt (F := F) c [] (dueRs c) ∗ cred (tallyAt (barCell c) () 7) ∗ atPos ER (barCell c) 0 ∅ 0) ⊢ BarSt (F := F) c (rsL c 0 all7 ++ (rsL c 1 all7 ++ dueAg c)) := by
  unfold SigSt BarSt
  iintro ⟨⟨HO, -⟩, Hc, Hp⟩
  isplitl [HO]; · iexact HO
  isplitl [Hc]; · iexact Hc
  iexact Hp

/-- The sends of finished rows begin. -/
theorem ag_open (s : Fin 2) {rest : List (GSem nD τ sig × ℕ)} :
    iprop(owesE (F := F) c (agL c s all7 ++ rest) ∗ seps all7 (agRes m c s)) ⊢ AgSt m c s all7 [] rest := by
  unfold AgSt
  iintro ⟨HO, H⟩
  isplitl [HO]; · iexact HO
  isplitl [H]; · iexact H
  iempintro
/-- The sends of finished rows are over. -/
theorem ag_over (s : Fin 2) {es : List (Fin 7)} : AgSt m c s [] es [] ⊢ iprop(owesE (F := F) c [] ∗ seps es (sentRes (F := F) c 2 s)) := by
  unfold AgSt
  iintro ⟨HO, -, H⟩
  isplitl [HO]; · iexact HO
  iexact H
/-- Waits begin. -/
theorem wait_open (k : Fin 4) (s : Fin 2) {l : List (GSem nD τ sig × ℕ)} :
    iprop(owesE (F := F) c l ∗ seps all7 (waitRes (F := F) c k s)) ⊢ WaitSt m c k s all7 [] l := by
  unfold WaitSt
  iintro ⟨HO, H⟩
  isplitl [HO]; · iexact HO
  isplitl [H]; · iexact H
  iempintro
/-- Waits end. -/
theorem wait_over (k : Fin 4) (s : Fin 2) {l : List (GSem nD τ sig × ℕ)} :
    WaitSt m c k s [] [6, 5, 4, 3, 2, 1, 0] l
      ⊢ iprop(owesE (F := F) c l ∗ DoneAt (F := F) c k s ∗ bigSep Finset.univ fun r : Fin 7 => xpay m c k s (pr c r)) := by
  unfold WaitSt
  iintro ⟨HO, -, H⟩
  ihave H := (got_all m c k s) $$ H
  isplitl [HO]; · iexact HO
  iexact H

/-- Closing all of a device's cells. -/
theorem close_all :
    know m K ⊢ iprop((atPos ER (barCell c) 1 ∅ 0
        ∗ ((DoneAt (F := F) c 0 0 ∗ atPos ER (xc c 0 0 c) 0 ∅ 0) ∗ (DoneAt (F := F) c 0 1 ∗ atPos ER (xc c 0 1 c) 0 ∅ 0))
        ∗ ((DoneAt (F := F) c 1 0 ∗ atPos ER (xc c 1 0 c) 0 ∅ 0) ∗ (DoneAt (F := F) c 1 1 ∗ atPos ER (xc c 1 1 c) 0 ∅ 0))
        ∗ ((DoneAt (F := F) c 2 0 ∗ atPos ER (xc c 2 0 c) 0 ∅ 0) ∗ (DoneAt (F := F) c 2 1 ∗ atPos ER (xc c 2 1 c) 0 ∅ 0))
        ∗ ((DoneAt (F := F) c 3 0 ∗ atPos ER (xc c 3 0 c) 0 ∅ 0) ∗ (DoneAt (F := F) c 3 1 ∗ atPos ER (xc c 3 1 c) 0 ∅ 0)))
      -∗ |={Set.univ}=> allShut (F := F) c) := by
  unfold allShut
  iintro #HK ⟨Hb, ⟨⟨D0, P0⟩, ⟨D1, P1⟩⟩, ⟨⟨D2, P2⟩, ⟨D3, P3⟩⟩, ⟨⟨D4, P4⟩, ⟨D5, P5⟩⟩, ⟨⟨D6, P6⟩, ⟨D7, P7⟩⟩⟩
  imod (close_bar m K c) $$ HK Hb with Hb
  imod (close m K c 0 0) $$ HK D0 P0 with H0
  imod (close m K c 0 1) $$ HK D1 P1 with H1
  imod (close m K c 1 0) $$ HK D2 P2 with H2
  imod (close m K c 1 1) $$ HK D3 P3 with H3
  imod (close m K c 2 0) $$ HK D4 P4 with H4
  imod (close m K c 2 1) $$ HK D5 P5 with H5
  imod (close m K c 3 0) $$ HK D6 P6 with H6
  imod (close m K c 3 1) $$ HK D7 P7 with H7
  imodintro
  isplitl [Hb]; · iexact Hb
  isplitl [H0 H1]
  · isplitl [H0]; · iexact H0
    iexact H1
  isplitl [H2 H3]
  · isplitl [H2]; · iexact H2
    iexact H3
  isplitl [H4 H5]
  · isplitl [H4]; · iexact H4
    iexact H5
  isplitl [H6]; · iexact H6
  iexact H7

end Cert.KernelIdeal.Exch

end
-- ==== Proof.KernelIdeal.Parts2.lean ====
/-
The sends of the parts, and a device's own parts.
-/
module

public import proofs.«01_k».proof.Proof.KernelIdeal.Parts1
public import Idealize.ShloMosaic.Lib.Pipeline.Value

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

theorem pay21_same (v : Vec F S1x1x64x1024 .bf16) : k0_pay21 (F := F) v = v := by
  unfold k0_pay21
  exact shapeCast_shapeCast ..
theorem pay22_same (v : Vec F S1x1x64x1024 .bf16) : k0_pay22 (F := F) v = v := pay21_same v

/-- From the sends of half 0 to those of half 1. -/
theorem rs_turn {es : List (Fin 7)} {rest : List (GSem nD τ sig × ℕ)} :
    iprop(RsSt m c 0 [] es (rsL c 1 all7 ++ rest) ∗ seps all7 (rsRes m c 1)) ⊢ iprop(RsSt m c 1 all7 [] rest ∗ seps es (sentRes (F := F) c 0 0)) := by
  unfold RsSt
  iintro ⟨⟨HO, -, He⟩, Hr⟩
  isplitr [He]
  · isplitl [HO]; · iexact HO
    isplitl [Hr]; · iexact Hr
    iempintro
  iexact He

/-- From the sends of half 1 to the waits for half 0. -/
theorem rs_wait {es : List (Fin 7)} {rest : List (GSem nD τ sig × ℕ)} :
    iprop(RsSt m c 1 [] es rest ∗ seps all7 (waitRes (F := F) c 1 0)) ⊢ iprop(WaitSt m c 1 0 all7 [] rest ∗ seps es (sentRes (F := F) c 0 1)) := by
  unfold RsSt WaitSt
  iintro ⟨⟨HO, -, He⟩, Hr⟩
  isplitr [He]
  · isplitl [HO]; · iexact HO
    isplitl [Hr]; · iexact Hr
    iempintro
  iexact He

/-- Part 6: two sends. -/
theorem part6 {α : Type} {rest : List (GSem nD τ sig × ℕ)} {v : BitVec 32} {k : (BitVec 32) → Prog (TpuEff nD τ sig (Elt F) Λ₀ .tc) α} {Q : α → sProp 𝕄} :
    know m K ⊢ iprop(RsSt m c 0 [2, 3, 4, 5, 6] [1, 0] rest
      -∗ (∀ w, RsSt m c 0 [4, 5, 6] [3, 2, 1, 0] rest -∗ run c (k w) Q)
      -∗ runThen c ((onBufs (k0_part6 (F := F))) c v) k Q) := by
  simp only [onBufs, k0_part6_eq_skeleton]; unfold k0_part6_skel
  simp only [runThen, semSignalWord, semWaitWord, Prog.lift, Prog.bind_op, Prog.bind_ret, Prog.pure_eq_ret, wp_deviceId]
  iintro #HK H Hk
  iapply (step_rs m K c 0 (r := 2) (by exact dev_eq 2 (k0_dev10_eq c)) (off4' c 2) (off3' c) (off1' c 2) (off2' c)) $$ HK H; iintro H
  iapply (step_rs m K c 0 (r := 3) (by exact dev_eq 3 (k0_dev11_eq c)) (off4' c 3) (off3' c) (off1' c 3) (off2' c)) $$ HK H; iintro H
  iapply Hk; iexact H

/-- Part 7: two sends. -/
theorem part7 {α : Type} {rest : List (GSem nD τ sig × ℕ)} {v x : BitVec 32} {k : (PUnit) → Prog (TpuEff nD τ sig (Elt F) Λ₀ .tc) α} {Q : α → sProp 𝕄} :
    know m K ⊢ iprop(RsSt m c 0 [4, 5, 6] [3, 2, 1, 0] rest
      -∗ (RsSt m c 0 [6] [5, 4, 3, 2, 1, 0] rest -∗ run c (k ⟨⟩) Q)
      -∗ runThen c ((onBufs (k0_part7 (F := F))) c v x) k Q) := by
  simp only [onBufs, k0_part7_eq_skeleton]; unfold k0_part7_skel
  simp only [runThen, semSignalWord, semWaitWord, Prog.lift, Prog.bind_op, Prog.bind_ret, Prog.pure_eq_ret, wp_deviceId]
  iintro #HK H Hk
  iapply (step_rs m K c 0 (r := 4) (by exact dev_eq 4 (k0_dev12_eq c)) (off4' c 4) (off3' c) (off1' c 4) (off2' c)) $$ HK H; iintro H
  iapply (step_rs m K c 0 (r := 5) (by exact dev_eq 5 (k0_dev13_eq c)) (off4' c 5) (off3' c) (off1' c 5) (off2' c)) $$ HK H; iintro H
  iapply Hk; iexact H

/-- Part 8: the last send of half 0, the own part, the first send of half 1. -/
theorem part8 {α : Type} {rest : List (GSem nD τ sig × ℕ)} {v : BitVec 32} {k : (PUnit) → Prog (TpuEff nD τ sig (Elt F) Λ₀ .tc) α} {Q : α → sProp 𝕄} :
    know m K ⊢ iprop(RsSt m c 0 [6] [5, 4, 3, 2, 1, 0] (rsL c 1 all7 ++ rest) -∗ seps all7 (rsRes m c 1) -∗ OwnSt m c 0
      -∗ (RsSt m c 1 [1, 2, 3, 4, 5, 6] [0] rest -∗ seps [6, 5, 4, 3, 2, 1, 0] (sentRes (F := F) c 0 0) -∗ OwnDone m c 0 -∗ run c (k ⟨⟩) Q)
      -∗ runThen c ((onBufs (k0_part8 (F := F))) c v) k Q) := by
  simp only [onBufs, k0_part8_eq_skeleton]; unfold k0_part8_skel
  simp only [runThen, semSignalWord, semWaitWord, Prog.lift, Prog.bind_op, Prog.bind_ret, Prog.pure_eq_ret, wp_deviceId]
  iintro #HK H HR HV Hk
  iapply (step_rs m K c 0 (r := 6) (by exact dev_eq 6 (k0_dev14_eq c)) (off4' c 6) (off3' c) (off1' c 6) (off2' c)) $$ HK H; iintro H
  iapply (step_own m c 0 (off5' c) pay21_same) $$ HV; iintro HV
  ihave H' := (rs_turn m c) $$ [H HR]
  · isplitl [H]; · iexact H
    iexact HR
  icases H' with ⟨H, He⟩
  iapply (step_rs m K c 1 (r := 0) (by exact dev_eq 0 (k0_dev15_eq c)) (off9' c 0) (off8' c) (off6' c 0) (off7' c)) $$ HK H; iintro H
  iapply Hk $$ H He HV

/-- Part 9: three sends. -/
theorem part9 {α : Type} {rest : List (GSem nD τ sig × ℕ)} {v : BitVec 32} {k : (BitVec 32) → Prog (TpuEff nD τ sig (Elt F) Λ₀ .tc) α} {Q : α → sProp 𝕄} :
    know m K ⊢ iprop(RsSt m c 1 [1, 2, 3, 4, 5, 6] [0] rest
      -∗ (RsSt m c 1 [4, 5, 6] [3, 2, 1, 0] rest -∗ run c (k 5#32) Q)
      -∗ runThen c ((onBufs (k0_part9 (F := F))) c v) k Q) := by
  simp only [onBufs, k0_part9_eq_skeleton]; unfold k0_part9_skel
  simp only [runThen, semSignalWord, semWaitWord, Prog.lift, Prog.bind_op, Prog.bind_ret, Prog.pure_eq_ret, wp_deviceId]
  iintro #HK H Hk
  iapply (step_rs m K c 1 (r := 1) (by exact dev_eq 1 (k0_dev16_eq c)) (off9' c 1) (off8' c) (off6' c 1) (off7' c)) $$ HK H; iintro H
  iapply (step_rs m K c 1 (r := 2) (by exact dev_eq 2 (k0_dev17_eq c)) (off9' c 2) (off8' c) (off6' c 2) (off7' c)) $$ HK H; iintro H
  iapply (step_rs m K c 1 (r := 3) (by exact dev_eq 3 (k0_dev18_eq c)) (off9' c 3) (off8' c) (off6' c 3) (off7' c)) $$ HK H; iintro H
  iapply Hk; iexact H

/-- Part 10: two sends. -/
theorem part10 {α : Type} {rest : List (GSem nD τ sig × ℕ)} {v x : BitVec 32} {k : (Σ' (v282 : BitVec 32), BitVec 32) → Prog (TpuEff nD τ sig (Elt F) Λ₀ .tc) α} {Q : α → sProp 𝕄} :
    know m K ⊢ iprop(RsSt m c 1 [4, 5, 6] [3, 2, 1, 0] rest
      -∗ (∀ w, RsSt m c 1 [6] [5, 4, 3, 2, 1, 0] rest -∗ run c (k ⟨w, 0#32⟩) Q)
      -∗ runThen c ((onBufs (k0_part10 (F := F))) c v x) k Q) := by
  simp only [onBufs, k0_part10_eq_skeleton]; unfold k0_part10_skel
  simp only [runThen, semSignalWord, semWaitWord, Prog.lift, Prog.bind_op, Prog.bind_ret, Prog.pure_eq_ret, wp_deviceId]
  iintro #HK H Hk
  iapply (step_rs m K c 1 (r := 4) (by exact dev_eq 4 (k0_dev19_eq c)) (off9' c 4) (off8' c) (off6' c 4) (off7' c)) $$ HK H; iintro H
  iapply (step_rs m K c 1 (r := 5) (by exact dev_eq 5 (k0_dev20_eq c)) (off9' c 5) (off8' c) (off6' c 5) (off7' c)) $$ HK H; iintro H
  iapply Hk; iexact H

/-- Part 11: the last send of half 1, the own part, the first wait for half 0. -/
theorem part11 {α : Type} {v x y : BitVec 32} {k : (Σ' (v310 : BitVec 32), BitVec 32) → Prog (TpuEff nD τ sig (Elt F) Λ₀ .tc) α} {Q : α → sProp 𝕄} :
    know m K ⊢ iprop(RsSt m c 1 [6] [5, 4, 3, 2, 1, 0] (dueAg c) -∗ seps all7 (waitRes (F := F) c 1 0) -∗ OwnSt m c 1
      -∗ (∀ w, WaitSt m c 1 0 [1, 2, 3, 4, 5, 6] [0] (dueAg c) -∗ seps [6, 5, 4, 3, 2, 1, 0] (sentRes (F := F) c 0 1) -∗ OwnDone m c 1 -∗ run c (k ⟨w, 1#32⟩) Q)
      -∗ runThen c ((onBufs (k0_part11 (F := F))) c v x y) k Q) := by
  simp only [onBufs, k0_part11_eq_skeleton]; unfold k0_part11_skel
  simp only [runThen, semSignalWord, semWaitWord, Prog.lift, Prog.bind_op, Prog.bind_ret, Prog.pure_eq_ret, wp_deviceId]
  iintro #HK H HR HV Hk
  iapply (step_rs m K c 1 (r := 6) (by exact dev_eq 6 (k0_dev21_eq c)) (off9' c 6) (off8' c) (off6' c 6) (off7' c)) $$ HK H; iintro H
  iapply (step_own m c 1 (off10' c) pay22_same) $$ HV; iintro HV
  ihave H' := (rs_wait m c) $$ [H HR]
  · isplitl [H]; · iexact H
    iexact HR
  icases H' with ⟨H, He⟩
  iapply (step_await m K c 1 0 (r := 0) (dueAg_below c) (off1' c 0)) $$ HK H; iintro H
  iapply Hk $$ H He HV

end Cert.KernelIdeal.Exch

end
-- ==== Proof.KernelIdeal.Body.lean ====
/-
The kernel's body on one device: its forty-one parts in the order they run.
-/
module

public import proofs.«01_k».proof.Proof.KernelIdeal.Turns
public import proofs.«01_k».proof.Proof.KernelIdeal.Parts2

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- The body, from the rights, the credit, the positions and the buffers a device starts with: it returns the two
    arguments, leaves the three scratch buffers at known contents and the result at the finished rows of all devices,
    owes nothing and has closed its cells. -/
theorem sound {Q : PUnit → sProp 𝕄} :
    know m K ⊢ iprop((owesE (F := F) c (due c) ∗ rights (F := F) c ∗ credits (F := F) c ∗ places (F := F) c)
      -∗ (slots (F := F) c srcM ∗ slots (F := F) c rsM ∗ slots (F := F) c agM)
      -∗ ArgSt m c -∗ (OutSt m c 0 [0, 1, 2, 3, 4, 5, 6, 7] [] ∗ OutSt m c 1 [0, 1, 2, 3, 4, 5, 6, 7] [])
      -∗ (owesE (F := F) c [] -∗ allShut (F := F) c
          -∗ (slotsAt c srcM (fun s i => srcV m c s i) ∗ slotsAt c rsM (fun s i => srcV m i s c) ∗ slotsAt c agM (fun s i => agV m i s))
          -∗ ArgSt m c -∗ (OutSt m c 0 [] [7, 6, 5, 4, 3, 2, 1, 0] ∗ OutSt m c 1 [] [7, 6, 5, 4, 3, 2, 1, 0]) -∗ Q ⟨⟩)
      -∗ run c (onBufs (cc0_body (F := F))) Q) := by
  simp only [onBufs, cc0_body_eq_skeleton]; unfold cc0_body_skel
  rw [run, wp_bind]
  simp only [k0_part41_eq_skeleton]; unfold k0_part41_skel
  simp only [Prog.lift, Prog.bind_op, Prog.bind_ret, Prog.pure_eq_ret]
  unfold rights credits places posn' slots
  iintro #HK ⟨HO, ⟨Hsig, ⟨Hn00, Hn01, Hn20, Hn21⟩, ⟨Hf10, Hf11, Hf30, Hf31⟩⟩, ⟨HcB, Hc10, Hc11, Hc30, Hc31⟩,
    ⟨HpB, ⟨⟨Ho00, Hp00⟩, ⟨Ho01, Hp01⟩⟩, ⟨⟨Ho10, Hp10⟩, ⟨Ho11, Hp11⟩⟩, ⟨⟨Ho20, Hp20⟩, ⟨Ho21, Hp21⟩⟩, ⟨⟨Ho30, Hp30⟩, ⟨Ho31, Hp31⟩⟩⟩⟩
    ⟨Hsrc, Hrs, Hag⟩ HX ⟨HY0, HY1⟩ Hk
  ihave Hsrc := (src_open m c) $$ [Hsrc]
  · unfold slots; iexact Hsrc
  icases Hsrc with ⟨HS0, HS1⟩
  ihave H := (set_out c) $$ [HO Hsig Hrs Hag]
  · isplitl [HO]; · iexact HO
    isplitl [Hsig]; · iexact Hsig
    isplitl [Hrs]; · iexact Hrs
    iexact Hag
  icases H with ⟨H, Hrs, ⟨Hag0, Hag1⟩⟩
  iapply (part1 m K c) $$ HK H; iintro %v %w H
  iapply (part2 m K c) $$ HK H HX HS0; iintro H HX HS0
  iapply (part3 m c) $$ [HS0 HS1]
  · isplitl [HS0]; · iexact HS0
    iexact HS1
  iintro HS0 HS1
  iapply (part4 m c) $$ HS1; iintro HS1
  ihave HB := (bar_open c) $$ [H HcB HpB]
  · isplitl [H]; · iexact H
    isplitl [HcB]; · iexact HcB
    iexact HpB
  ihave HW := (open_sends m c (rest := rsL c 1 all7 ++ dueAg c)) $$ [Hn00 Hn01 Hf10 Hf11 Hrs HS0]
  · isplitl [Hn00 Hn01 Hf10 Hf11]
    · isplitl [Hn00]; · iexact Hn00
      isplitl [Hn01]; · iexact Hn01
      isplitl [Hf10]; · iexact Hf10
      iexact Hf11
    isplitl [Hrs]; · iexact Hrs
    iexact HS0
  iapply (part5 m K c (l := rsL c 0 all7 ++ (rsL c 1 all7 ++ dueAg c)) (rest := rsL c 1 all7 ++ dueAg c) (fun p (hp : p ∈ dueRs c) => mem_dueRs hp)) $$ HK HS1 HB HW; iintro H ⟨HR1, HO0, HO1, HpB, Hl0, Hl1⟩
  iapply (part6 m K c) $$ HK H; iintro %w6 H
  iapply (part7 m K c) $$ HK H; iintro H
  iapply (part8 m K c) $$ HK H HR1 HO0; iintro H Hs00 HO0
  iapply (part9 m K c) $$ HK H; iintro H
  iapply (part10 m K c) $$ HK H; iintro %w10 H
  ihave HR := (wait_ready c 1 0) $$ [Hc10 Hp10]
  · isplitl [Hc10]; · iexact Hc10
    iexact Hp10
  iapply (part11 m K c) $$ HK H HR HO1; iintro %w11 H Hs01 HO1
  iapply (part12 m K c) $$ HK H; iintro H
  iapply (part13 m K c) $$ HK H; iintro H
  unfold OwnDone
  icases HO0 with ⟨Hsrc0, Hrs0⟩
  icases HO1 with ⟨Hsrc1, Hrs1⟩
  iapply (part14 m K c) $$ HK H Hrs0; iintro HO HD10 HA0
  ihave HV := (fin_open m c 0) $$ Hag0
  iapply (part15 m c) $$ [HA0 HV]
  · isplitl [HA0]; · iexact HA0
    iexact HV
  iintro HA0 HV
  ihave HG := (ag_ready m c 0) $$ [HV Hl0 Hn20 Hf30]
  · isplitl [HV]; · iexact HV
    isplitl [Hl0]; · iexact Hl0
    isplitl [Hn20]; · iexact Hn20
    iexact Hf30
  icases HG with ⟨Hkept0, Hlent0, HG⟩
  ihave H := (ag_open m c 0) $$ [HO HG]
  · isplitl [HO]; · unfold dueAg; iexact HO
    iexact HG
  iapply (part16 m K c) $$ HK H; iintro %w16 H
  iapply (part17 m K c) $$ HK H; iintro H
  ihave HR := (wait_ready c 1 1) $$ [Hc11 Hp11]
  · isplitl [Hc11]; · iexact Hc11
    iexact Hp11
  iapply (part18 m K c) $$ HK H HR; iintro %w18 H Hs20
  iapply (part19 m K c) $$ HK H; iintro H
  iapply (part20 m K c) $$ HK H; iintro %w20 H
  iapply (part21 m K c) $$ HK H Hrs1; iintro HO HD11 HA1
  ihave HV := (fin_open m c 1) $$ Hag1
  iapply (part22 m c) $$ [HA1 HV]
  · isplitl [HA1]; · iexact HA1
    iexact HV
  iintro HA1 HV
  ihave HG := (ag_ready m c 1) $$ [HV Hl1 Hn21 Hf31]
  · isplitl [HV]; · iexact HV
    isplitl [Hl1]; · iexact Hl1
    isplitl [Hn21]; · iexact Hn21
    iexact Hf31
  icases HG with ⟨Hkept1, Hlent1, HG⟩
  ihave H := (ag_open m c 1) $$ [HO HG]
  · isplitl [HO]; · iexact HO
    iexact HG
  iapply (part23 m K c) $$ HK H; iintro %w23 H
  iapply (part24 m K c) $$ HK H; iintro H
  iapply (part25 m K c) $$ HK H; iintro H
  ihave H := (ag_over m c 1) $$ H
  icases H with ⟨HO, Hs21⟩
  ihave HR := (wait_ready c 3 0) $$ [Hc30 Hp30]
  · isplitl [Hc30]; · iexact Hc30
    iexact Hp30
  ihave H := (wait_open m c 3 0) $$ [HO HR]
  · isplitl [HO]; · iexact HO
    iexact HR
  iapply (part26 m K c) $$ HK H; iintro H
  iapply (part27 m K c) $$ HK H; iintro %w27 H
  iapply (part28 m K c) $$ HK H Hlent0 HY0; iintro HO HD30 HG0 HY0
  iapply (part29 m c) $$ [HG0 HY0]
  · isplitl [HG0]; · iexact HG0
    iexact HY0
  iintro HG0 HY0
  ihave HR := (wait_ready c 3 1) $$ [Hc31 Hp31]
  · isplitl [Hc31]; · iexact Hc31
    iexact Hp31
  ihave H := (wait_open m c 3 1) $$ [HO HR]
  · isplitl [HO]; · iexact HO
    iexact HR
  iapply (part30 m K c) $$ HK H; iintro %w30 H
  iapply (part31 m K c) $$ HK H; iintro H
  iapply (part32 m K c) $$ HK H Hlent1 HY1; iintro HO HD31 HG1 HY1
  iapply (part33 m c) $$ [HG1 HY1]
  · isplitl [HG1]; · iexact HG1
    iexact HY1
  iintro HG1 HY1
  ihave HR := (left_ready c 0 0) $$ [Hs00 Hp00]
  · isplitl [Hs00]; · iexact Hs00
    iexact Hp00
  ihave H := (wait_open m c 0 0) $$ [HO HR]
  · isplitl [HO]; · iexact HO
    iexact HR
  iapply (part34 m K c) $$ HK H; iintro H
  iapply (part35 m K c) $$ HK H; iintro H
  ihave HR := (left_ready c 0 1) $$ [Hs01 Hp01]
  · isplitl [Hs01]; · iexact Hs01
    iexact Hp01
  ihave H := (wait_turn m c 0 0 0 1) $$ [H HR]
  · isplitl [H]; · iexact H
    iexact HR
  icases H with ⟨H, HD00, HX00⟩
  iapply (part36 m K c) $$ HK H; iintro H
  ihave HR := (left_ready c 2 0) $$ [Hs20 Hp20]
  · isplitl [Hs20]; · iexact Hs20
    iexact Hp20
  iapply (part37 m K c) $$ HK H HR; iintro H HD01 HX01
  iapply (part38 m K c) $$ HK H; iintro H
  ihave HR := (left_ready c 2 1) $$ [Hs21 Hp21]
  · isplitl [Hs21]; · iexact Hs21
    iexact Hp21
  iapply (part39 m K c) $$ HK H HR; iintro H HD20 HX20
  iapply (part40 m K c) $$ HK H; iintro H
  iapply (step_await m K c 2 1 (r := 5) (nil_below _) (off6' c 5)) $$ HK H; iintro H
  rw [run, wp_ret]
  imodintro
  iapply (step_await m K c 2 1 (r := 6) (nil_below _) (off6' c 6)) $$ HK H; iintro H
  ihave H := (wait_over m c 2 1) $$ H
  icases H with ⟨HO, HD21, HX21⟩
  imod (close_all m K c) $$ HK [HpB HD00 Ho00 HD01 Ho01 HD10 Ho10 HD11 Ho11 HD20 Ho20 HD21 Ho21 HD30 Ho30 HD31 Ho31] with HZ
  · isplitl [HpB]; · iexact HpB
    isplitl [HD00 Ho00 HD01 Ho01]
    · isplitl [HD00 Ho00]
      · isplitl [HD00]; · iexact HD00
        iexact Ho00
      · isplitl [HD01]; · iexact HD01
        iexact Ho01
    isplitl [HD10 Ho10 HD11 Ho11]
    · isplitl [HD10 Ho10]
      · isplitl [HD10]; · iexact HD10
        iexact Ho10
      · isplitl [HD11]; · iexact HD11
        iexact Ho11
    isplitl [HD20 Ho20 HD21 Ho21]
    · isplitl [HD20 Ho20]
      · isplitl [HD20]; · iexact HD20
        iexact Ho20
      · isplitl [HD21]; · iexact HD21
        iexact Ho21
    · isplitl [HD30 Ho30]
      · isplitl [HD30]; · iexact HD30
        iexact Ho30
      · isplitl [HD31]; · iexact HD31
        iexact Ho31
  ihave HA := (rs_back m c 0) $$ [Hsrc0 HX00]
  · isplitl [Hsrc0]; · iexact Hsrc0
    iexact HX00
  ihave HB := (rs_back m c 1) $$ [Hsrc1 HX01]
  · isplitl [Hsrc1]; · iexact Hsrc1
    iexact HX01
  ihave HC := (ag_back m c 0) $$ [HG0 Hkept0 HX20]
  · isplitl [HG0]; · iexact HG0
    isplitl [Hkept0]; · iexact Hkept0
    iexact HX20
  ihave HD := (ag_back m c 1) $$ [HG1 Hkept1 HX21]
  · isplitl [HG1]; · iexact HG1
    isplitl [Hkept1]; · iexact Hkept1
    iexact HX21
  rw [wp_ret]
  imodintro
  iapply Hk $$ HO HZ [HA HB HA0 HA1 HC HD] HX [HY0 HY1]
  · unfold slotsAt
    isplitl [HA HB]
    · isplitl [HA]; · iexact HA
      iexact HB
    isplitl [HA0 HA1]
    · unfold RsAll
      isplitl [HA0]; · iexact HA0
      iexact HA1
    isplitl [HC]; · iexact HC
    iexact HD
  · isplitl [HY0]; · iexact HY0
    iexact HY1

end Cert.KernelIdeal.Exch

end
-- ==== Proof.KernelIdeal.Deal.lean ====
/-
What the launch deals the devices: the ghost state of the cells, the rights to pay dealt to whoever pays, and the
credit of what is going to be paid.
-/
module

public import proofs.«01_k».proof.Proof.KernelIdeal.Turns

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Families over kinds, halves and indices -/

/-- A family over kinds, halves and one more index, kind by kind and half by half. -/
theorem by_kind {J : Type} [Fintype J] [DecidableEq J] (Φ : Fin 4 × Fin 2 × J → sProp 𝕄) :
    bigSep Finset.univ Φ = iprop(((bigSep Finset.univ fun j => Φ (0, 0, j)) ∗ bigSep Finset.univ fun j => Φ (0, 1, j))
      ∗ ((bigSep Finset.univ fun j => Φ (1, 0, j)) ∗ bigSep Finset.univ fun j => Φ (1, 1, j))
      ∗ ((bigSep Finset.univ fun j => Φ (2, 0, j)) ∗ bigSep Finset.univ fun j => Φ (2, 1, j))
      ∗ ((bigSep Finset.univ fun j => Φ (3, 0, j)) ∗ bigSep Finset.univ fun j => Φ (3, 1, j))) := by
  have h (k : Fin 4) : (bigSep Finset.univ fun q : Fin 2 × J => Φ (k, q))
      = iprop((bigSep Finset.univ fun j => Φ (k, 0, j)) ∗ bigSep Finset.univ fun j => Φ (k, 1, j)) := by
    rw [bigSep_univ_prod, bigSep_fin_two]; rfl
  rw [bigSep_univ_prod, bigSep_univ_eq_bigSepL [(0 : Fin 4), 1, 2, 3] (by decide) (by decide)]
  rw [← h, ← h, ← h, ← h]
  rfl

/-- A family over a device's cells: its barrier, and the others. -/
theorem by_cell (Φ : CI → sProp 𝕄) : bigSep Finset.univ Φ = iprop(Φ none ∗ bigSep Finset.univ fun x => Φ (some x)) := by
  have e : (Finset.univ : Finset CI) = insert none ((Finset.univ : Finset (Fin 4 × Fin 2 × Dev nD)).map ⟨some, Option.some_injective _⟩) := by
    ext x; cases x <;> simp
  rw [e, bigSep_insert (by simp), bigSep_map]
  rfl

/-- Over all devices and distances, a family may be read from the other end. -/
theorem flipped (Φ : Dev nD → Fin 7 → sProp 𝕄) :
    (bigSep Finset.univ fun c => bigSep Finset.univ fun r => Φ c r)
      = bigSep Finset.univ fun c => bigSep Finset.univ fun r => Φ (pr c r) (rev r) := by
  rw [← bigSep_univ_prod (fun p : Dev nD × Fin 7 => Φ p.1 p.2), bigSep_univ_equiv flip, ← bigSep_univ_prod (fun p : Dev nD × Fin 7 => Φ (pr p.1 p.2) (rev p.2))]
  rfl

/-! ## Credit -/

/-- When every device owes `n` at one semaphore of its peer at distance `r + 1`, a device is credited what the one it is
    that peer of owes. -/
theorem credit_at (sm : Dev nD → SemLoc sig) (n : ℕ) (r : Fin 7) :
    (Pipeline.launchCred (fun d => tallyAt ((pr d r : Thread nD τ), sm d) () n) c : sProp 𝕄)
      = cred (tallyAt ((c : Thread nD τ), sm (pr c (rev r))) () n) := by
  have back (c : Dev nD) : pr (pr c (rev r)) r = c := by have := pr_rev c (rev r); rwa [rev_rev] at this
  refine Pipeline.launchCred_of_sum _ (fun c : Dev nD => tallyAt ((c : Thread nD τ), sm (pr c (rev r))) () n) ?_ ?_ c
  · refine Fintype.sum_equiv ⟨fun d => pr d r, fun d => pr d (rev r), fun d => pr_rev d r, back⟩ _ _ fun d => ?_
    change _ = tallyAt ((pr d r : Thread nD τ), sm (pr (pr d r) (rev r))) () n
    rw [pr_rev]
  · intro d g hg
    have : ∃ u, tallyAt ((d : Thread nD τ), sm (pr d (rev r))) () n g u ≠ 0 := by
      by_contra hh
      push Not at hh
      exact hg (Finsupp.ext hh)
    obtain ⟨u, hu⟩ := this
    rw [(Pipeline.tallyAt_pos (Nat.pos_of_ne_zero hu)).1]

/-- The same for a list of distances. -/
theorem credit_list (sm : Dev nD → SemLoc sig) (n : ℕ) (rest : Dev nD → List (GSem nD τ sig × ℕ)) (ds : List (Fin 7)) :
    (Pipeline.launchCred (fun d => owedL (ds.map (fun r => (((pr d r : Thread nD τ), sm d), n)) ++ rest d)) c : sProp 𝕄)
      = iprop(Pipeline.launchCred (fun d => owedL (rest d)) c
          ∗ seps ds fun r => cred (tallyAt ((c : Thread nD τ), sm (pr c (rev r))) () n)) := by
  induction ds with
  | nil =>
    refine Entails.antisymm (show _ ⊢ (_ : sProp 𝕄) from ?_) (show _ ⊢ (_ : sProp 𝕄) from ?_)
    · iintro H
      isplitl [H]; · iexact H
      iempintro
    · iintro ⟨H, -⟩; iexact H
  | cons r ds ih =>
    have e := Pipeline.launchCred_add (Ix := Unit) (Val := Elt F) (Name := ℕ) (U := UU) (Lvl := ℕ)
      (fun d => owedL (ds.map (fun r => (((pr d r : Thread nD τ), sm d), n)) ++ rest d))
      (fun d => tallyAt ((pr d r : Thread nD τ), sm d) () n) c
    refine Eq.trans e ?_
    rw [ih, credit_at, seps_cons]
    refine Entails.antisymm (show _ ⊢ (_ : sProp 𝕄) from ?_) (show _ ⊢ (_ : sProp 𝕄) from ?_)
    · iintro ⟨⟨H, H'⟩, H''⟩
      isplitl [H]; · iexact H
      isplitl [H'']; · iexact H''
      iexact H'
    · iintro ⟨H, H'', H'⟩
      isplitr [H'']
      · isplitl [H]; · iexact H
        iexact H'
      · iexact H''

/-- A family over the distances, counted from the other end. -/
theorem reversed (Φ : Fin 7 → sProp 𝕄) : (bigSep Finset.univ fun r => Φ (rev r)) = bigSep Finset.univ Φ :=
  (bigSep_univ_equiv (⟨rev, rev, rev_rev, rev_rev⟩ : Fin 7 ≃ Fin 7) Φ).symm

theorem crd_of (k : Fin 4) (s : Fin 2) :
    (seps all7 fun r => cred (tallyAt ((c : Thread nD τ), SemLoc.dma (xsem k s (pr c (rev r)))) () N) : sProp 𝕄) = crd (F := F) c k s := by
  rw [walk]
  unfold crd
  exact reversed fun r => cred (tallyAt (xc c k s (pr c r)) () N)

/-- Seven units at one barrier. -/
theorem seven_of : (seps all7 fun _ => cred (tallyAt (barCell c) () 1) : sProp 𝕄) ⊢ cred (tallyAt (barCell c) () 7) := by
  rw [walk, ← Pipeline.cred_finsetSum]
  refine Entails.of_eq (congrArg cred ?_)
  have h (n : ℕ) : n • (tallyAt (barCell c) () 1 : CellTallies nD τ sig Unit) = tallyAt (barCell c) () n := by
    induction n with
    | zero => rw [zero_nsmul]; exact (tallyAt_zero _ _).symm
    | succ n ih => rw [succ_nsmul, ih, tallyAt_add]
  rw [Finset.sum_const, Finset.card_univ, Fintype.card_fin, h]

/-- The credit a device starts with. -/
theorem credits_of : (Pipeline.launchCred (fun d => owedL (due d)) c : sProp 𝕄) ⊢ credits (F := F) c := by
  have e0 : (Pipeline.launchCred (fun d => owedL (due d)) c : sProp 𝕄)
      = iprop(Pipeline.launchCred (fun d : Dev nD => owedL (dueRs d)) c ∗ _) := credit_list (F := F) c (fun _ => SemLoc.reg barS) 1 dueRs all7
  have e1 : (Pipeline.launchCred (fun d => owedL (dueRs d)) c : sProp 𝕄)
      = iprop(Pipeline.launchCred (fun d : Dev nD => owedL (rsL d 1 all7 ++ dueAg d)) c ∗ _) := credit_list (F := F) c (fun d => SemLoc.dma (xsem 1 0 d)) N (fun d => rsL d 1 all7 ++ dueAg d) all7
  have e2 : (Pipeline.launchCred (fun d => owedL (rsL d 1 all7 ++ dueAg d)) c : sProp 𝕄)
      = iprop(Pipeline.launchCred (fun d : Dev nD => owedL (dueAg d)) c ∗ _) := credit_list (F := F) c (fun d => SemLoc.dma (xsem 1 1 d)) N dueAg all7
  have e3 : (Pipeline.launchCred (fun d => owedL (dueAg d)) c : sProp 𝕄)
      = iprop(Pipeline.launchCred (fun d : Dev nD => owedL (agL d 1 all7 ++ [])) c ∗ _) := credit_list (F := F) c (fun d => SemLoc.dma (xsem 3 0 d)) N (fun d => agL d 1 all7 ++ []) all7
  have e4 : (Pipeline.launchCred (fun d => owedL (agL d 1 all7 ++ [])) c : sProp 𝕄)
      = iprop(Pipeline.launchCred (fun d : Dev nD => owedL (([] : List (GSem nD τ sig × ℕ)))) c ∗ _) := credit_list (F := F) c (fun d => SemLoc.dma (xsem 3 1 d)) N (fun _ => []) all7
  rw [crd_of] at e1 e2 e3 e4
  iintro H
  ihave H := (Entails.of_eq e0) $$ H
  icases H with ⟨H, H0⟩
  ihave H := (Entails.of_eq e1) $$ H
  icases H with ⟨H, H1⟩
  ihave H := (Entails.of_eq e2) $$ H
  icases H with ⟨H, H2⟩
  ihave H := (Entails.of_eq e3) $$ H
  icases H with ⟨H, H3⟩
  ihave H := (Entails.of_eq e4) $$ H
  icases H with ⟨-, H4⟩
  unfold credits
  isplitl [H0]; · iapply (seven_of c) $$ H0
  isplitl [H1]; · iexact H1
  isplitl [H2]; · iexact H2
  isplitl [H3]; · iexact H3
  iexact H4

/-! ## The cells and the rights, as minted -/

theorem csem_injective : Function.Injective (csem : CI → SemLoc sig) := by
  intro x y h
  match x, y, h with
  | none, none, _ => rfl
  | none, some _, h => exact absurd h (fun h => by cases h)
  | some _, none, h => exact absurd h (fun h => by cases h)
  | some (k, s, i), some (k', s', i'), h =>
    have e : xsem k s i = xsem k' s' i' := by injection h
    have e1 := congrArg kOf e
    have e2 := congrArg sOf e
    have e3 := congrArg iOf e
    rw [kOf_xsem, kOf_xsem] at e1
    rw [sOf_xsem, sOf_xsem] at e2
    rw [iOf_xsem, iOf_xsem] at e3
    rw [e1, e2, e3]

theorem kcell_injective : Function.Injective (kcell : Dev nD × CI → GSem nD τ sig) := by
  rintro ⟨c, x⟩ ⟨c', x'⟩ h
  have h1 : c = c' := congrArg (fun g : GSem nD τ sig => g.1.1) h
  have h2 : x = x' := csem_injective (congrArg Prod.snd h)
  rw [h1, h2]

/-- All cells. -/
def cells : Finset (GSem nD τ sig) := Finset.univ.map ⟨kcell, kcell_injective⟩

/-- The duties of a device's own cells: the seven of its barrier, and one of each cell whose index is a peer. -/
abbrev TI : Type := Fin 7 ⊕ (Fin 4 × Fin 2 × Fin 7)
abbrev tokOf (p : Dev nD × TI) : GSem nD τ sig × ℕ × Fin 7 := match p.2 with
  | .inl r => (barCell p.1, 0, r)
  | .inr (k, s, r) => (xc p.1 k s (pr p.1 r), 0, 0)

theorem tokOf_injective : Function.Injective tokOf := by
  rintro ⟨c, x⟩ ⟨c', x'⟩ h
  match x, x', h with
  | .inl r, .inl r', h =>
    have h1 : c = c' := congrArg (fun g : GSem nD τ sig × ℕ × Fin 7 => g.1.1.1) h
    have h2 : r = r' := congrArg (fun g : GSem nD τ sig × ℕ × Fin 7 => g.2.2) h
    rw [h1, h2]
  | .inl r, .inr (k, s, r'), h => exact absurd (congrArg (fun g : GSem nD τ sig × ℕ × Fin 7 => g.1.2) h) (fun h => by cases h)
  | .inr (k, s, r'), .inl r, h => exact absurd (congrArg (fun g : GSem nD τ sig × ℕ × Fin 7 => g.1.2) h) (fun h => by cases h)
  | .inr (k, s, r), .inr (k', s', r'), h =>
    have h0 := kcell_injective (a₁ := (c, some (k, s, pr c r))) (a₂ := (c', some (k', s', pr c' r')))
      (congrArg (fun g : GSem nD τ sig × ℕ × Fin 7 => g.1) h)
    obtain ⟨h1, h2⟩ := Prod.mk.inj h0
    subst h1
    obtain ⟨h3, h4⟩ := Prod.mk.inj (Option.some.inj h2)
    obtain ⟨h5, h6⟩ := Prod.mk.inj h4
    rw [h3, h5, pr_inj c r r' h6]

/-- All duties. -/
def duties : Finset (GSem nD τ sig × ℕ × Fin 7) := Finset.univ.map ⟨tokOf, tokOf_injective⟩

/-- The rights to pay a device's own cells. -/
def minted : sProp 𝕄 :=
  iprop((bigSep Finset.univ fun r : Fin 7 => dutyTok ER (barCell c) 0 r)
    ∗ (near (F := F) c 0 0 ∗ near (F := F) c 0 1) ∗ (near (F := F) c 1 0 ∗ near (F := F) c 1 1)
    ∗ (near (F := F) c 2 0 ∗ near (F := F) c 2 1) ∗ (near (F := F) c 3 0 ∗ near (F := F) c 3 1))

theorem minted_eq : (bigSep duties fun x => dutyTok ER x.1 x.2.1 x.2.2 : sProp 𝕄) = bigSep Finset.univ fun c => minted (F := F) c := by
  unfold duties
  rw [bigSep_map, bigSep_univ_prod]
  refine bigSep_congr fun c _ => ?_
  rw [bigSep_univ_sum, by_kind]
  rfl

/-- Over all devices, the rights to pay one's own cells are the rights to pay one's peers'. -/
theorem far_of (k : Fin 4) (s : Fin 2) :
    (bigSep Finset.univ fun c => near (F := F) c k s) = bigSep Finset.univ fun c => far (F := F) c k s := by
  unfold near far
  rw [flipped]
  exact bigSep_congr fun c _ => bigSep_congr fun r _ => by rw [pr_rev]
theorem sigs_of : (bigSep Finset.univ fun c => bigSep Finset.univ fun r : Fin 7 => (dutyTok ER (barCell c) 0 r : sProp 𝕄))
    = bigSep Finset.univ fun c => sigs (F := F) c := by
  unfold sigs
  rw [flipped]

/-- The rights dealt to whoever pays. -/
theorem dealt : (bigSep Finset.univ fun c => minted (F := F) c) ⊢ bigSep Finset.univ fun c => rights (F := F) c := by
  unfold minted rights
  simp only [bigSep_sep']
  rw [sigs_of, far_of 1 0, far_of 1 1, far_of 3 0, far_of 3 1]
  iintro ⟨Hs, ⟨H00, H01⟩, ⟨H10, H11⟩, ⟨H20, H21⟩, ⟨H30, H31⟩⟩
  isplitl [Hs]; · iexact Hs
  isplitl [H00 H01 H20 H21]
  · isplitl [H00]; · iexact H00
    isplitl [H01]; · iexact H01
    isplitl [H20]; · iexact H20
    iexact H21
  · isplitl [H10]; · iexact H10
    isplitl [H11]; · iexact H11
    isplitl [H30]; · iexact H30
    iexact H31

/-! ## From the launch element to what each device starts with -/

/-- The kernel's own semaphores. -/
abbrev osem (x : Fin 4 × Fin 2 × Dev nD) : SemLoc sig := .dma (xsem x.1 x.2.1 x.2.2)

/-- What the launch element holds for a device. -/
def G : sProp 𝕄 :=
  iprop((bigSep Finset.univ fun x : CI => roundState ER (sched m) (kcell (c, x)) 0)
    ∗ ((bigSep Finset.univ fun x : CI => atPos ER (kcell (c, x)) 0 ∅ 0) ∗ bigSep Finset.univ fun x : CI => reached ER (kcell (c, x)) 0)
    ∗ minted (F := F) c)
/-- What a device starts with. -/
def G' : sProp 𝕄 := iprop(∃ K, records m K ∗ places (F := F) c ∗ rights (F := F) c)

theorem fund : BI.own (ER (initOf cells duties)) ⊢ (|==> bigSep Finset.univ (G m) : sProp 𝕄) := by
  have hX (Φ : GSem nD τ sig → sProp 𝕄) : bigSep cells Φ = bigSep Finset.univ fun c : Dev nD => bigSep Finset.univ fun x : CI => Φ (kcell (c, x)) := by
    unfold cells; rw [bigSep_map, bigSep_univ_prod]; rfl
  iintro H
  imod (Rounds.fund ER (sched m) cells duties) $$ H with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq minted_eq) $$ Htok
  unfold G
  simp only [bigSep_sep']
  isplitl [Hst]; · iexact Hst
  isplitl [Hat Hr]
  · isplitl [Hat]; · iexact Hat
    iexact Hr
  iexact Htok

theorem ownSems_eq : (Pipeline.ownSems0 (Ix := Unit) (Name := ℕ) (U := UU) (Lvl := ℕ) (Val := Elt F) (τ := τ) osem c : sProp 𝕄)
    = bigSep Finset.univ fun x : Fin 4 × Fin 2 × Dev nD => semVal (kcell (c, some x)) 0 := rfl

theorem unscopedSems_eq : (unscopedSems0 c : sProp 𝕄) = semVal (barCell c) 0 := by
  unfold unscopedSems0; rw [bigSep_eq_bigSepL_of_eq [SemLoc.reg barS] (by decide) (by decide)]; rfl

/-- All cells closed is all semaphores at zero. -/
theorem shut_eq : allShut (F := F) c = iprop(semVal (barCell c) 0
    ∗ Pipeline.ownSems0 (Ix := Unit) (Name := ℕ) (U := UU) (Lvl := ℕ) (Val := Elt F) (τ := τ) osem c) := by
  rw [ownSems_eq, by_kind]; rfl

/-- A device's positions at its cells. -/
theorem places_of : (bigSep Finset.univ fun x : CI => atPos ER (kcell (c, x)) 0 ∅ 0 : sProp 𝕄) = places (F := F) c := by
  have h (k : Fin 4) (s : Fin 2) : (bigSep Finset.univ fun i : Dev nD => (atPos ER (xc c k s i) 0 ∅ 0 : sProp 𝕄)) = posn' (F := F) c k s :=
    peers_eq c _
  rw [by_cell, by_kind]
  unfold places
  simp only [← h]

/-- The invariants of a device's cells, allocated. -/
theorem alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : CI => iprop(∃ κ : ℕ, cellInv ER (sched m) κ (kcell (c, x))))
          ∗ (bigSep Finset.univ fun x : CI => reached ER (kcell (c, x)) 0) ∗ (places (F := F) c ∗ minted (F := F) c)) := by
  unfold G
  rw [ownSems_eq, unscopedSems_eq, places_of]
  iintro ⟨Hos, Hus, Hst, ⟨Hat, Hr⟩, Htok⟩
  imod (show iprop((bigSep Finset.univ fun x : CI => semVal (kcell (c, x)) 0) ∗ bigSep Finset.univ fun x : CI => roundState ER (sched m) (kcell (c, x)) 0)
      ⊢ (|={Set.univ}=> bigSep Finset.univ fun x => iprop(∃ κ : ℕ, cellInv ER (sched m) κ (kcell (c, x))) : sProp 𝕄) from by
        rw [← bigSep_sep']
        exact (bigSep_mono fun x _ => (Rounds.body_intro ER (sched m) (kcell (c, x))).trans inv_alloc).trans (bigSep_fupd _ _)) $$ [Hos Hus Hst] with Hinv
  · isplitr [Hst]
    · rw [by_cell]
      isplitl [Hus]; · iexact Hus
      iexact Hos
    · iexact Hst
  imodintro
  isplitl [Hinv]; · iexact Hinv
  isplitl [Hr]; · iexact Hr
  isplitl [Hat]; · iexact Hat
  iexact Htok

theorem regroup :
    (bigSep Finset.univ fun c : Dev nD => iprop((bigSep Finset.univ fun x : CI => iprop(∃ κ : ℕ, cellInv ER (sched m) κ (kcell (c, x))))
          ∗ (bigSep Finset.univ fun x : CI => reached ER (kcell (c, x)) 0) ∗ (places (F := F) c ∗ minted (F := F) c)) : sProp 𝕄)
      ⊢ bigSep Finset.univ (G' m) := by
  rw [bigSep_sep', bigSep_sep', bigSep_sep', ← bigSep_univ_prod (fun p : Dev nD × CI => iprop(∃ κ : ℕ, cellInv ER (sched m) κ (kcell p))),
    ← bigSep_univ_prod (fun p : Dev nD × CI => (reached ER (kcell p) 0 : sProp 𝕄))]
  iintro ⟨HI, Hr, Hat, Htok⟩
  ihave HK := (BI.bigSep_exists_pi Finset.univ (fun (p : Dev nD × CI) (κ : ℕ) => (cellInv ER (sched m) κ (kcell p) : sProp 𝕄))) $$ HI
  icases HK with ⟨%K, HI⟩
  ihave Htok := (dealt (F := F)) $$ Htok
  have hg (c : Dev nD) : iprop(records m K ∗ (places (F := F) c ∗ rights (F := F) c)) ⊢ G' m c := by
    unfold G'
    iintro H
    iexists K
    iexact H
  iapply (bigSep_with_persistent (R := records m K) (Φ := fun c => iprop(places (F := F) c ∗ rights (F := F) c)) (Ψ := G' m) fun c _ => hg c)
  isplitl [HI Hr]
  · unfold records
    iapply (unzip _ _).2
    isplitl [HI]; · iexact HI
    iexact Hr
  · iapply (unzip _ _).2
    isplitl [Hat]; · iexact Hat
    iexact Htok

/-- The global step: from every device's semaphores and the launch element to what each device starts with. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (regroup m))

end Cert.KernelIdeal.Exch

end
-- ==== Proof.KernelIdeal.Launch.lean ====
/-
The launch: the body with whole buffers, the pipeline's proof data, and the run of the program from any memory with
all counters at zero.
-/
module

public import proofs.«01_k».proof.Proof.KernelIdeal.Body
public import proofs.«01_k».proof.Proof.KernelIdeal.Deal
public import Idealize.ShloMosaic.Lib.Pipeline.ValueKit
public import Idealize.ShloMosaic.Lib.Pipeline.CollectiveSegs

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The result -/

/-- Where element `y` of the result lies among the 64 rows of its half and device. -/
def within (y : S1024x1024.Idx) : S64x1024.Idx := fun a =>
  ⟨(![(y 0).val % 64, (y 1).val] : Fin 2 → ℕ) a, by
    have h : (y 1).val < 1024 := (y 1).isLt
    fin_cases a
    · exact Nat.mod_lt _ (by decide)
    · exact h⟩
/-- The half and the device whose rows element `y` of the result lies in. -/
def halfOf (y : S1024x1024.Idx) : Fin 2 := ⟨(y 0).val / 64 % 2, Nat.mod_lt _ (by decide)⟩
def devOf (y : S1024x1024.Idx) : Dev nD := ⟨(y 0).val / 128, by have h : (y 0).val < 1024 := (y 0).isLt; show _ < 8; omega⟩

/-- The result every device ends with. -/
def outBuf : Vec F S1024x1024 .f32 := fun y => outV m (devOf y) (halfOf y) (within y)

theorem row_emb (y : S1024x1024.Idx) : (rowR (halfOf y) (devOf y)).emb (within y) = y := by
  funext a
  apply Fin.ext
  fin_cases a
  · change (128 * ((y 0).val / 128) + 64 * ((y 0).val / 64 % 2)) + 1 * ((y 0).val % 64) = (y 0).val
    omega
  · change 0 + 1 * (y 1).val = (y 1).val
    omega

/-- A buffer that holds every device's finished rows is the result. -/
theorem outBuf_of (c : Dev nD) (f : Buf (Elt F) (outM.view.loc (c : Thread nD τ)))
    (h : ∀ s i, (outM.access (rowR s i)).read (Elt F) f = outV m i s) : f = outBuf m := by
  funext y
  have e := congrFun (h (halfOf y) (devOf y)) (within y)
  change f ((rowR (halfOf y) (devOf y)).emb (within y)) = _ at e
  rw [row_emb] at e
  exact e

/-! ## Whole buffers -/

variable (c : Dev nD)

/-- A device's buffer, whatever it holds. -/
abbrev anyB (b : Ref sig .tc) : sProp 𝕄 := iprop(∃ f : Buf (Elt F) ((c : Thread nD τ).loc b), ((c : Thread nD τ).loc b) ↦{fullShare} f)
/-- A device's buffer, holding `X`. -/
abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_whole_eq (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem open_src : anyB (F := F) c cc0_scratch0 ⊢ slots (F := F) c srcM := by
  have h := cut (F := F) c srcM slotR slots_apart slots_all
  rw [show srcM.view.set = Finset.univ from View.set_whole _] at h
  exact h
theorem open_rs : anyB (F := F) c cc0_scratch1 ⊢ slots (F := F) c rsM := by
  have h := cut (F := F) c rsM slotR slots_apart slots_all
  rw [show rsM.view.set = Finset.univ from View.set_whole _] at h
  exact h
theorem open_ag : anyB (F := F) c cc0_scratch2 ⊢ slots (F := F) c agM := by
  have h := cut (F := F) c agM slotR slots_apart slots_all
  rw [show agM.view.set = Finset.univ from View.set_whole _] at h
  exact h
theorem open_out : anyB (F := F) c cc0_stg2_0 ⊢ iprop(OutSt m c 0 [0, 1, 2, 3, 4, 5, 6, 7] [] ∗ OutSt m c 1 [0, 1, 2, 3, 4, 5, 6, 7] []) := by
  have h := cut (F := F) c outM rowR rows_apart rows_all
  rw [show outM.view.set = Finset.univ from View.set_whole _] at h
  unfold OutSt FillSt
  rw [stroll, stroll]
  iintro H
  ihave H := h $$ H
  icases H with ⟨H0, H1⟩
  isplitl [H0]
  · isplitl [H0]; · iexact H0
    iempintro
  · isplitl [H1]; · iexact H1
    iempintro

theorem shut_src (X : Fin 2 → Dev nD → Vec F S1x1x64x1024 .bf16) : slotsAt c srcM X ⊢ anyB (F := F) c cc0_scratch0 := by
  have h := uncut c srcM slotR slots_apart slots_all X
  rw [show srcM.view.set = Finset.univ from View.set_whole _] at h
  unfold slotsAt
  iintro H
  ihave H := h $$ H
  icases H with ⟨%f, -, H⟩
  iexists f
  iexact H
theorem shut_rs (X : Fin 2 → Dev nD → Vec F S1x1x64x1024 .bf16) : slotsAt c rsM X ⊢ anyB (F := F) c cc0_scratch1 := by
  have h := uncut c rsM slotR slots_apart slots_all X
  rw [show rsM.view.set = Finset.univ from View.set_whole _] at h
  unfold slotsAt
  iintro H
  ihave H := h $$ H
  icases H with ⟨%f, -, H⟩
  iexists f
  iexact H
theorem shut_ag (X : Fin 2 → Dev nD → Vec F S1x1x64x1024 .bf16) : slotsAt c agM X ⊢ anyB (F := F) c cc0_scratch2 := by
  have h := uncut c agM slotR slots_apart slots_all X
  rw [show agM.view.set = Finset.univ from View.set_whole _] at h
  unfold slotsAt
  iintro H
  ihave H := h $$ H
  icases H with ⟨%f, -, H⟩
  iexists f
  iexact H
theorem shut_out : iprop(OutSt m c 0 [] [7, 6, 5, 4, 3, 2, 1, 0] ∗ OutSt m c 1 [] [7, 6, 5, 4, 3, 2, 1, 0]) ⊢ stg c cc0_stg2_0 (outBuf m) := by
  have h := uncut c outM rowR rows_apart rows_all (fun s i => outV m i s)
  rw [show outM.view.set = Finset.univ from View.set_whole _] at h
  iintro ⟨H0, H1⟩
  ihave H0 := (filled c) $$ H0
  ihave H1 := (filled c) $$ H1
  ihave H := h $$ [H0 H1]
  · isplitl [H0]; · iexact H0
    iexact H1
  icases H with ⟨%f, %hf, H⟩
  iexists f
  isplitr
  · ipureintro; exact outBuf_of m c f hf
  · iexact H

/-! ## The pipeline's proof data -/

/-- What a device's body starts from, its scratch buffers aside; -/
def start : sProp 𝕄 := iprop(G' m c ∗ credits (F := F) c ∗ levAts L lv)
/-- the scratch buffers. -/
def scratch : sProp 𝕄 := iprop(anyB (F := F) c cc0_scratch0 ∗ anyB (F := F) c cc0_scratch1 ∗ anyB (F := F) c cc0_scratch2)

def dats (_ : Fin 1) (c : Dev nD) : Dat τ (Elt F) Unit ℕ UU ℕ cfg0 c where
  A w := V m c (Pipeline.arrRef spec0 w)
  after w _ := match w with
    | ⟨0, _⟩ => xA m c
    | ⟨1, _⟩ => xB m c
    | ⟨2, _⟩ => outBuf m
  Φ t := match t with
    | ⟨0, _⟩ => iprop(start m c ∗ scratch (F := F) c)
    | ⟨_ + 1, _⟩ => iprop(allShut (F := F) c ∗ scratch (F := F) c)
  q _ := fullShare
  owed t := match t with
    | ⟨0, _⟩ => owedL (due c)
    | ⟨_ + 1, _⟩ => 0

def bodyPre : sProp 𝕄 :=
  iprop((start m c ∗ scratch (F := F) c) ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost : sProp 𝕄 :=
  iprop((allShut (F := F) c ∗ scratch (F := F) c) ∗ (dats m 0 c).owesAt () t0_0.succ
    ∗ stg c cc0_stg0_0 (xA m c) ∗ stg c cc0_stg1_0 (xB m c) ∗ stg c cc0_stg2_0 (outBuf m))

theorem sound_body : bodyPre m c ⊢ run c (onBufs (cc0_body (F := F))) (fun _ => bodyPost m c) := by
  unfold bodyPre start scratch G'
  unfold Dat.owesAt Pipeline.owesWithin
  rw [show (dats m 0 c).owed t0_0.castSucc = owedL (due c) from rfl]
  iintro ⟨⟨⟨⟨%K, #HR, Hp, Hr⟩, Hc, #Hl⟩, Hs0, Hs1, Hs2⟩, ⟨%W, %hW, HO⟩, ⟨%d0, %g0, %hg0, Ha⟩, ⟨%d1, %g1, %hg1, Hb⟩, ⟨%d2, %g2, %hg2, Ho⟩⟩
  have ha : g0 = xA m c := by rw [hg0]; unfold Dat.before; rw [if_pos (fetch0_0 t0_0)]; rfl
  have hb : g1 = xB m c := by rw [hg1]; unfold Dat.before; rw [if_pos (fetch0_1 t0_0)]; rfl
  subst ha
  subst hb
  iapply (sound m K c) $$ [] [HO Hr Hc Hp] [Hs0 Hs1 Hs2] [Ha Hb] [Ho]
  · unfold know
    isplitl []; · iexact HR
    iexact Hl
  · isplitl [HO]; · unfold owesE; iexists W; iexact HO
    isplitl [Hr]; · iexact Hr
    isplitl [Hc]; · iexact Hc
    iexact Hp
  · isplitl [Hs0]; · iapply (open_src c) $$ Hs0
    isplitl [Hs1]; · iapply (open_rs c) $$ Hs1
    iapply (open_ag c) $$ Hs2
  · unfold ArgSt
    isplitl [Ha]; · iexact Ha
    iexact Hb
  · iapply (open_out m c)
    iexists g2
    iexact Ho
  iintro HO Hz ⟨Hs0, Hs1, Hs2⟩ HX HY
  unfold bodyPost scratch Dat.owesAt Pipeline.owesWithin owesE ArgSt
  rw [show (dats m 0 c).owed t0_0.succ = 0 from rfl]
  icases HO with ⟨%W', HO⟩
  icases HX with ⟨Ha, Hb⟩
  isplitl [Hz Hs0 Hs1 Hs2]
  · isplitl [Hz]; · iexact Hz
    isplitl [Hs0]; · iapply (shut_src c _) $$ Hs0
    isplitl [Hs1]; · iapply (shut_rs c _) $$ Hs1
    iapply (shut_ag c _) $$ Hs2
  isplitl [HO]
  · iexists W'
    isplitr; · ipureintro; exact fun _ _ => Or.inl trivial
    iexact HO
  isplitl [Ha]
  · iexists _; isplitr; · (ipureintro; rfl)
    iexact Ha
  isplitl [Hb]
  · iexists _; isplitr; · (ipureintro; rfl)
    iexact Hb
  iapply (shut_out m c) $$ HY

set_option maxRecDepth 8000 in
/-- The library's body obligation. -/
theorem body_obligation : BodyObligation (dats m 0 c) (defs₀ (F := F)) 𝒱₀ () Set.univ := fun t => by
  rw [fin_N0 t]
  rw [bigSep_W0, bigSep_W0]
  simp only [owns_whole_eq]
  have hb : defs₀ (F := F) Proc.tc 0 (t0_0, cfg0.slots t0_0) = onBufs (cc0_body (F := F)) := by
    change bodyAt0 (F := F) t0_0 = _
    rfl
  rw [hb]
  have h0 : (dats m 0 c).Φ t0_0.castSucc = iprop(start m c ∗ scratch (F := F) c) := rfl
  have h1 : (dats m 0 c).Φ t0_0.succ = iprop(allShut (F := F) c ∗ scratch (F := F) c) := rfl
  have h2 : (dats m 0 c).after 0 t0_0 = xA m c := rfl
  have h3 : (dats m 0 c).after 1 t0_0 = xB m c := rfl
  have h4 : (dats m 0 c).after 2 t0_0 = outBuf m := rfl
  rw [h0, h1, h2, h3, h4]
  have h := sound_body m c
  unfold bodyPre bodyPost at h
  generalize (onBufs (cc0_body (F := F))) = p at h ⊢
  unfold run at h
  generalize (fun x : PUnit =>
      iprop((allShut (F := F) c ∗ scratch (F := F) c) ∗
          (dats m 0 c).owesAt () t0_0.succ ∗ stg c cc0_stg0_0 (xA m c) ∗ stg c cc0_stg1_0 (xB m c) ∗ stg c cc0_stg2_0 (outBuf m))) = Q at h ⊢
  exact h

/-! ## The launch's side conditions -/

theorem ownSemFacts : Pipeline.OwnSemFacts cfg0.spec osem := by decide

theorem share_eq (w : Fin cfg0.W) : (dats m 0 c).share w = fullShare := by unfold Dat.share; split <;> rfl

def u₀ : UU := (initOf (Pipeline.cells cfgs cellOf_inj) (Pipeline.launchToks cfgs cellOf_inj), initOf cells duties)

theorem start_intro :
    iprop(Pipeline.unscopedRestP Pipeline.Prefetch.none cfg0.spec c (fun b => m ((c : Thread nD τ).loc b)) ∗ levAts L lv
        ∗ Pipeline.launchCred (fun d => owedL (due d)) c ∗ prngReg c (ρ c) ∗ G' m c)
      ⊢ |={Set.univ}=> iprop(start m c ∗ emp) := by
  iintro ⟨-, Hl, Hc, -, HG⟩
  ihave Hc := (credits_of (F := F) c) $$ Hc
  imodintro
  unfold start
  isplitl
  · isplitl [HG]; · iexact HG
    isplitl [Hc]; · iexact Hc
    iexact Hl
  · iempintro

theorem enter :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch (F := F) c) from rfl, scopedRest0_eq]
  unfold scratch
  iintro ⟨Hs, -, Hr⟩
  isplitl [Hs]; · iexact Hs
  iexact Hr

theorem leave :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(allShut (F := F) c ∗ scratch (F := F) c) from rfl, scopedRest0_eq, shut_eq, unscopedSems_eq]
  unfold scratch
  iintro ⟨⟨HB, HS⟩, Hr⟩
  isplitl [HB]; · iexact HB
  isplitl [HS]; · iexact HS
  iexact Hr

/-- The pipeline's own waits: its staging cells lie below everything a device owes. -/
theorem stage_waits (q : DmaSem sig) (hq : q.val < 3) (l : List (GSem nD τ sig × ℕ)) (hl : ∀ p ∈ l, p.1.1.2 = .tc ∧ 1 ≤ lv p.1 ()) :
    (levAts L lv : sProp 𝕄) ⊢ MayWait (c : Thread nD τ) (.dma q) () (owedL l) :=
  mayWait_due c _ l fun p hp => ⟨(hl p hp).1, by
    have h : lv ((c : Thread nD τ), SemLoc.dma q) () = 0 := by dsimp only [lv]; exact if_pos hq
    rw [h]; exact (hl p hp).2⟩

theorem waits : (levAts L lv : sProp 𝕄) ⊢ Pipeline.cellsWaits cfgs (dats m) () 0 c :=
  Pipeline.cellsWaits_intro cfgs (dats m) () 0 c fun w s t => by
    rcases t with ⟨_ | _, ht⟩
    · exact stage_waits c _ (by fin_cases w <;> fin_cases s <;> decide) (due c) fun p hp => mem_due hp
    · exact stage_waits c _ (by fin_cases w <;> fin_cases s <;> decide) [] fun p hp => absurd hp List.not_mem_nil

/-! ## The run -/

/-- The windows' arrays after the run. -/
def finalA (w : Fin cfg0.W) : Buf (Elt F) ((cfg0.win w).arr.view.loc (c : Thread nD τ)) := (dats m 0 c).arrAt w cfg0.N

set_option maxRecDepth 100000 in
/-- From any memory with all counters at zero every fair run of the eight devices ends, with the windows' arrays at
    what the proof data say and every counter at zero. -/
theorem run_main : θ_run defs (onTc (τ := τ) (main (F := F))) (⟨m, fun _ => 0, ρ⟩ : MemSt nD τ sig (Elt F)) (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => owedL (due d)) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays after the run hold what they held, -/
theorem finalA_0 : finalA m c (0 : Fin 3) = m ((c.tc : Thread nD τ).loc main_arg0) := (dats m 0 c).arrAt_in (0 : Fin 3) rfl _
theorem finalA_1 : finalA m c (1 : Fin 3) = m ((c.tc : Thread nD τ).loc main_arg1) := (dats m 0 c).arrAt_in (1 : Fin 3) rfl _
/-- and the result's array every device's finished rows. -/
theorem finalA_2 : finalA m c (2 : Fin 3) = (outBuf m : Buf (Elt F) ((c.tc : Thread nD τ).loc main_v1)) :=
  (dats m 0 c).arrAt_eq_of_after_last (2 : Fin 3) t0_0 (by decide +kernel) _ fun j => rfl

/-- The run, read at the arguments and the result. -/
theorem run_values : θ_run defs (onTc (τ := τ) (main (F := F))) (⟨m, fun _ => 0, ρ⟩ : MemSt nD τ sig (Elt F)) (fun r =>
    (∀ c : Dev nD, r.2.mem ((c.tc : Thread nD τ).loc main_v1) = (outBuf m : Buf (Elt F) ((c.tc : Thread nD τ).loc main_v1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨(h.1 c 2).trans (finalA_2 m c), (h.1 c 0).trans (finalA_0 m c), (h.1 c 1).trans (finalA_1 m c)⟩, h.2⟩)
    (run_main m ρ)

end Cert.KernelIdeal.Exch

end
-- ==== Proof.Value.Gelu.lean ====
/-
The activation as a function of one extended real number: half of `z` times one plus the hyperbolic tangent of a cubic
in `z`. The three constants are the rationals that their 32-bit float words stand for.
-/
module

public import Idealize.ShloMosaic.Lib.Pointwise

@[expose] public section

noncomputable section

namespace Cert.Exch

open Idealize.ShloMosaic

/-- The activation of one number, in the order of the reference's text. -/
def gelu (z : EReal) : EReal :=
  Ideal.ofBits FTy.f32 0x3F000000#32 * z
    * (1 + Ideal.tanh (Ideal.ofBits FTy.f32 0x3F4C422A#32 * (z + Ideal.ofBits FTy.f32 0x3D372713#32 * z * z * z)))

end Cert.Exch

end
-- ==== Proof.Value.Block.lean ====
/-
What one device computes over the extended reals, entry by entry: a partial product is a sum of 512 products, a part
sent is 64 rows of it, and the finished rows of a device are the activation of the sum of the eight devices' parts.
-/
module

public import proofs.«01_k».proof.Proof.KernelIdeal.Protocol
public import proofs.«01_k».proof.Proof.Value.Gelu

@[expose] public section

noncomputable section

namespace Cert.KernelIdeal.Exch

open Cert.KernelIdeal Cert.KernelIdeal.Gen Cert.Exch
open Idealize.ShloMosaic Idealize.ShloMosaic.TcCoe Idealize.SL.Sem

variable (m : (ℓ : Loc nD τ sig) → Buf (Elt Ideal) ℓ)

/-- The row of the whole result that row `r` of half `s` of device `j` is. -/
def rowOf (s : Fin 2) (j : Dev nD) (r : Fin 64) : Fin 1024 :=
  ⟨128 * j.val + 64 * s.val + r.val, by
    have hj : j.val < 8 := j.isLt
    have hs := s.isLt
    have hr := r.isLt
    omega⟩

/-- An entry of a device's product: the sum over its 512 columns. -/
theorem pay1_apply (a : Vec Ideal S1024x512 .bf16) (b : Vec Ideal S512x1024 .bf16) (r l : Fin 1024) :
    k0_pay1 a b (ix2 r l) = ∑ k : Fin 512, a (ix2 r k) * b (ix2 k l) := by
  pointwise [k0_pay1]

/-- An entry of the part of a matrix that is sent for half `s` of device `j`. -/
theorem part_apply (P : FVec Ideal S1024x1024 .f32) (s : Fin 2) (j : Dev nD) (r : Fin 64) (l : Fin 1024) :
    part P s j (ix4 0 0 r l) = P (ix2 (rowOf s j r) l) := by
  pointwise [part, rowOf]

/-- An entry of the activation of eight parts is the activation of the sum of the eight entries. -/
theorem act_apply (v : Dev nD → Vec Ideal S1x1x64x1024 .bf16) (r : Fin 64) (l : Fin 1024) :
    act v (ix4 0 0 r l) = gelu (∑ j : Fin 8, v j (ix4 0 0 r l)) := by
  rw [Fin.sum_univ_eight]
  pointwise [act, k0_pay24, k0_pay23, gelu]

/-- The last widening leaves every entry as it is. -/
theorem pay28_apply (v : Vec Ideal S1x1x64x1024 .bf16) (r : Fin 64) (l : Fin 1024) :
    k0_pay28 v (ix2 r l) = v (ix4 0 0 r l) := by
  pointwise [k0_pay28]

/-- The block of the first argument that a device reads is the whole of its buffer, -/
theorem xA_eq (c : Dev nD) : xA m c = m ((c.tc : Thread nD τ).loc main_arg0) := by
  have hz : (fun a => win0_0.index t0_0 a * main_arg0.ty.shape.size a) = fun _ => 0 := funext fun a => by fin_cases a <;> decide
  exact Memref.read_access_unit_zero (Elt Ideal) main_arg0 hz (fun a => by rw [congrFun hz a]; simp) _

/-- and so is the block of the second. -/
theorem xB_eq (c : Dev nD) : xB m c = m ((c.tc : Thread nD τ).loc main_arg1) := by
  have hz : (fun a => win0_1.index t0_0 a * main_arg1.ty.shape.size a) = fun _ => 0 := funext fun a => by fin_cases a <;> decide
  exact Memref.read_access_unit_zero (Elt Ideal) main_arg1 hz (fun a => by rw [congrFun hz a]; simp) _

/-- An entry of the finished rows of half `s` of device `i`: the activation of the sum, over the eight devices, of
    their partial products at that row and column. -/
theorem outV_apply (i : Dev nD) (s : Fin 2) (r : Fin 64) (l : Fin 1024) :
    outV m i s (ix2 r l) = gelu (∑ j : Fin 8, ∑ k : Fin 512, xA m j (ix2 (rowOf s i r) k) * xB m j (ix2 k l)) := by
  unfold outV agV
  rw [pay28_apply, act_apply]
  congr 1
  refine Finset.sum_congr rfl fun j _ => ?_
  unfold srcV prod
  rw [part_apply, pay1_apply]

end Cert.KernelIdeal.Exch

end
-- ==== Proof.Value.Array.lean ====
/-
What the result array of every device holds over the extended reals, when the devices' arguments are the blocks of two
whole matrices: the activation of an entry of the product of the whole matrices.
-/
module

public import proofs.«01_k».proof.Proof.KernelIdeal.Launch
public import proofs.«01_k».proof.Proof.Value.Block
public import Idealize.ShloMosaic.Lib.Layout

@[expose] public section

noncomputable section

namespace Cert.KernelIdeal.Exch

open Cert.KernelIdeal Cert.KernelIdeal.Gen Cert.Exch
open Idealize.ShloMosaic Idealize.ShloMosaic.TcCoe Idealize.SL.Sem

variable (m : (ℓ : Loc nD τ sig) → Buf (Elt Ideal) ℓ)

/-- Row `r` is row `r % 64` of the half and the device it lies in. -/
theorem rowOf_self (r l : Fin 1024) :
    rowOf (halfOf (ix2 r l)) (devOf (ix2 r l)) ⟨r.val % 64, Nat.mod_lt _ (by decide)⟩ = r := by
  apply Fin.ext
  show 128 * (r.val / 128) + 64 * (r.val / 64 % 2) + r.val % 64 = r.val
  omega

/-- An entry of the result from the devices' own blocks. -/
theorem outBuf_apply (r l : Fin 1024) :
    outBuf m (ix2 r l) = gelu (∑ j : Fin 8, ∑ k : Fin 512, xA m j (ix2 r k) * xB m j (ix2 k l)) := by
  have hw : within (ix2 r l) = ix2 ⟨r.val % 64, Nat.mod_lt _ (by decide)⟩ l := by
    funext a
    fin_cases a <;> rfl
  unfold outBuf
  rw [hw, outV_apply, rowOf_self]

/-- An entry of the result from the whole matrices `A` and `B`, of which device `j` holds block `j` of the columns and
    of the rows. -/
theorem outBuf_whole (A : Vec Ideal ⟨2, ![1024, 4096]⟩ .bf16) (B : Vec Ideal ⟨2, ![4096, 1024]⟩ .bf16)
    (hA : ∀ c : Dev nD, m ((c.tc : Thread nD τ).loc main_arg0) = Layout.block ⟨2, ![1024, 512]⟩ ⟨2, ![1024, 4096]⟩ 1 8 c A)
    (hB : ∀ c : Dev nD, m ((c.tc : Thread nD τ).loc main_arg1) = Layout.block ⟨2, ![512, 1024]⟩ ⟨2, ![4096, 1024]⟩ 0 8 c B)
    (r l : Fin 1024) :
    outBuf m (ix2 r l) = gelu (∑ k : Fin 4096, A (ix2 r k) * B (ix2 k l)) := by
  rw [outBuf_apply, Fin.sum_univ_tiles 8 512 rfl]
  congr 1
  refine Finset.sum_congr rfl fun j _ => Finset.sum_congr rfl fun k _ => ?_
  rw [xA_eq, xB_eq, hA j, hB j, Layout.block_apply, Layout.block_apply]
  congr 2
  · funext a
    fin_cases a <;> rfl
  · funext a
    fin_cases a <;> rfl

end Cert.KernelIdeal.Exch

end
-- ==== Proof.Value.Reference.lean ====
/-
What the reference computes over the extended reals, entry by entry.
-/
module

public import proofs.«01_k».proof.Proof.Gen.ReferenceIdeal.Run
public import proofs.«01_k».proof.Proof.Value.Gelu

@[expose] public section

noncomputable section

namespace Cert.ReferenceIdeal.Value

open Cert.ReferenceIdeal Cert.ReferenceIdeal.Gen Cert.Exch
open Idealize.ShloMosaic Idealize.ShloMosaic.TcCoe Idealize.SL.Sem

/-- The product of the two widened arguments. -/
abbrev z (A : Vec Ideal S1024x4096 .bf16) (B : Vec Ideal S4096x1024 .bf16) : FVec Ideal S1024x1024 .f32 :=
  Host.dotGeneral (F := Ideal) dot_S1024x4096_S4096x1024_S1024x1024_1_0_0_1_n_n none (extf .f32 A bitsLt_bf16_f32) (extf .f32 B bitsLt_bf16_f32)

/-- A constant in every entry of a matrix of the result's shape. -/
abbrev splat (w : BitVec 32) : FVec Ideal S1024x1024 .f32 :=
  broadcastInDim S1024x1024 ![] bcast_S_S1024x1024 (constant (F := Ideal) S_ .f32 w)

/-- The reference's result as one expression in its two arguments. -/
def value (A : Vec Ideal S1024x4096 .bf16) (B : Vec Ideal S4096x1024 .bf16) : FVec Ideal S1024x1024 .f32 :=
  mulf (mulf (splat 0x3F000000#32) (z A B))
    (addf (splat 0x3F800000#32)
      (Host.tanh (mulf (splat 0x3F4C422A#32)
        (addf (z A B) (mulf (mulf (mulf (splat 0x3D372713#32) (z A B)) (z A B)) (z A B))))))

/-- An entry of it: the activation of the entry of the product of the arguments. -/
theorem value_apply (A : Vec Ideal S1024x4096 .bf16) (B : Vec Ideal S4096x1024 .bf16) (r l : Fin 1024) :
    value A B (ix2 r l) = gelu (∑ k : Fin 4096, A (ix2 r k) * B (ix2 k l)) := by
  pointwise [value, z, splat, gelu]

end Cert.ReferenceIdeal.Value

end
-- ==== Proof.Value.Equation.lean ====
/-
The equation: over the extended reals the array that every device ends with is the reference's result of the whole
arguments.
-/
module

public import proofs.«01_k».proof.Proof.Value.Array
public import proofs.«01_k».proof.Proof.Value.Reference

@[expose] public section

noncomputable section

namespace Cert.Exch

open Idealize.ShloMosaic Idealize.ShloMosaic.TcCoe Idealize.SL.Sem

/-- If device `c` holds block `c` of the columns of `A` and of the rows of `B`, then the result of every device is the
    reference's value at `A` and `B`. -/
theorem outBuf_eq_value (m : (ℓ : Loc KernelIdeal.nD KernelIdeal.τ KernelIdeal.sig) → Buf (Elt Ideal) ℓ)
    (A : Vec Ideal ⟨2, ![1024, 4096]⟩ .bf16) (B : Vec Ideal ⟨2, ![4096, 1024]⟩ .bf16)
    (hA : ∀ c : Dev KernelIdeal.nD, m ((c.tc : Thread KernelIdeal.nD KernelIdeal.τ).loc KernelIdeal.main_arg0)
      = Layout.block ⟨2, ![1024, 512]⟩ ⟨2, ![1024, 4096]⟩ 1 8 c A)
    (hB : ∀ c : Dev KernelIdeal.nD, m ((c.tc : Thread KernelIdeal.nD KernelIdeal.τ).loc KernelIdeal.main_arg1)
      = Layout.block ⟨2, ![512, 1024]⟩ ⟨2, ![4096, 1024]⟩ 0 8 c B) :
    KernelIdeal.Exch.outBuf m = ReferenceIdeal.Value.value A B := by
  funext y
  obtain ⟨r, l, rfl⟩ : ∃ r l : Fin 1024, y = ix2 r l := ⟨y 0, y 1, eq_ix2 y⟩
  rw [KernelIdeal.Exch.outBuf_whole m A B hA hB, ReferenceIdeal.Value.value_apply]

end Cert.Exch

end
-- ==== Proof.lean ====
/-
The certificate: the three programs run to an end with their arguments unchanged and every semaphore counter back at
zero; the idealized program is the printed one; and over the extended reals every device of the kernel ends with the
reference's result. The kernel's run is Proof/Kernel/Launch.lean and its twin Proof/KernelIdeal/Launch.lean, the
reference's Proof/Gen/ReferenceIdeal/Run.lean, the equation of the two values Proof/Value/Equation.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.Value.Equation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel as printed runs to an end, keeps its arguments and leaves every counter at zero. -/
theorem frame_kernel : Cert.quiescent_Kernel := fun m g _ =>
  (θ_run _ _ _).mono (fun _ h => ⟨fun c => (h.1 c).2, h.2⟩) (Kernel.Exch.run_values m g)

/-- So does the idealized kernel. -/
theorem frame_ideal : Cert.quiescent_KernelIdeal := fun m g _ =>
  (θ_run _ _ _).mono (fun _ h => ⟨fun c => (h.1 c).2, h.2⟩) (KernelIdeal.Exch.run_values m g)

/-- So does the reference, which has no counters. -/
theorem frame_reference : Cert.quiescent_ReferenceIdeal := fun m g _ =>
  (θ_run _ _ _).mono (fun r h => ⟨fun c => (h c).2, sem_eq_zero_of_no_sems (by decide) r.2⟩) (ReferenceIdeal.Value.run m g)

/-- Over the extended reals every device of the kernel ends with the reference's result. -/
theorem value : Cert.algebraic_KernelIdeal_ReferenceIdeal := fun m g m' g' _ hm =>
  ⟨KernelIdeal.Exch.outBuf m,
    (θ_run _ _ _).mono (fun _ h => h.1) (KernelIdeal.Exch.run_values m g),
    (θ_run _ _ _).mono (fun _ h => ⟨(h 0).1.trans (Exch.outBuf_eq_value m _ _ (fun c => (hm c).1) fun c => (hm c).2).symm, (h 0).2⟩)
      (ReferenceIdeal.Value.run m' g')⟩

/-- All five claims. -/
theorem claim : Cert.Claim :=
  ⟨Cert.Kernel.Gen.facts, Cert.KernelIdeal.Gen.facts, Cert.ReferenceIdeal.Gen.facts,
    frame_kernel, frame_ideal, frame_reference, trivial, value⟩

end Cert.Proof

end
